-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gemm (m : (ℓ : Loc Cert.Gemm.nD Cert.Gemm.τ Cert.Gemm.sig) → Buf (Elt Bits) ℓ) : Prop :=
  True

def Pre_GemmIdeal (m : (ℓ : Loc Cert.GemmIdeal.nD Cert.GemmIdeal.τ Cert.GemmIdeal.sig) → Buf (Elt Ideal) ℓ) : Prop :=
  True

def Pre_ProductIdeal (m : (ℓ : Loc Cert.ProductIdeal.nD Cert.ProductIdeal.τ Cert.ProductIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Gemm [hGemm : Cert.Gemm.Facts] : Prop :=
  ∀ (m : (ℓ : Loc Cert.Gemm.nD Cert.Gemm.τ Cert.Gemm.sig) → Buf (Elt Bits) ℓ) (g : Dev Cert.Gemm.nD → PrngReg), Pre_Gemm m →
    θ_run (Cert.Gemm.defs (F := Bits)) (onTc (τ := Cert.Gemm.τ) (Cert.Gemm.main (F := Bits))) ⟨m, fun _ => 0, g⟩ (fun r => (∀ c : Dev Cert.Gemm.nD,
      r.2.mem ((c.tc : Thread Cert.Gemm.nD Cert.Gemm.τ).loc Cert.Gemm.main_arg0) = m ((c.tc : Thread Cert.Gemm.nD Cert.Gemm.τ).loc Cert.Gemm.main_arg0)
      ∧ r.2.mem ((c.tc : Thread Cert.Gemm.nD Cert.Gemm.τ).loc Cert.Gemm.main_arg1) = m ((c.tc : Thread Cert.Gemm.nD Cert.Gemm.τ).loc Cert.Gemm.main_arg1)
      ∧ r.2.mem ((c.tc : Thread Cert.Gemm.nD Cert.Gemm.τ).loc Cert.Gemm.main_arg2) = m ((c.tc : Thread Cert.Gemm.nD Cert.Gemm.τ).loc Cert.Gemm.main_arg2)
      ∧ r.2.mem ((c.tc : Thread Cert.Gemm.nD Cert.Gemm.τ).loc Cert.Gemm.main_arg3) = m ((c.tc : Thread Cert.Gemm.nD Cert.Gemm.τ).loc Cert.Gemm.main_arg3))
      ∧ r.2.sem = fun _ => 0)

def quiescent_GemmIdeal [hGemmIdeal : Cert.GemmIdeal.Facts] : Prop :=
  ∀ (m : (ℓ : Loc Cert.GemmIdeal.nD Cert.GemmIdeal.τ Cert.GemmIdeal.sig) → Buf (Elt Ideal) ℓ) (g : Dev Cert.GemmIdeal.nD → PrngReg), Pre_GemmIdeal m →
    θ_run (Cert.GemmIdeal.defs (F := Ideal)) (onTc (τ := Cert.GemmIdeal.τ) (Cert.GemmIdeal.main (F := Ideal))) ⟨m, fun _ => 0, g⟩ (fun r => (∀ c : Dev Cert.GemmIdeal.nD,
      r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
      ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1)
      ∧ r.2.mem ((c.tc : Thread Cert.GemmIdeal.nD Cert.GemmIdeal.τ).loc Cert.GemmIdeal.main_arg2) = m ((c.tc : Thread Cert.GemmIdeal.nD Cert.GemmIdeal.τ).loc Cert.GemmIdeal.main_arg2)
      ∧ r.2.mem ((c.tc : Thread Cert.GemmIdeal.nD Cert.GemmIdeal.τ).loc Cert.GemmIdeal.main_arg3) = m ((c.tc : Thread Cert.GemmIdeal.nD Cert.GemmIdeal.τ).loc Cert.GemmIdeal.main_arg3))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 8192]⟩ ⟨2, ![131072, 8192]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def preserves_Gemm_GemmIdeal : Prop :=
  True

def algebraic_GemmIdeal_ProductIdeal [hGemmIdeal : Cert.GemmIdeal.Facts] [hProductIdeal : Cert.ProductIdeal.Facts] : Prop :=
  ∀ (m : (ℓ : Loc Cert.GemmIdeal.nD Cert.GemmIdeal.τ Cert.GemmIdeal.sig) → Buf (Elt Ideal) ℓ) (g : Dev Cert.GemmIdeal.nD → PrngReg)
    (m' : (ℓ : Loc Cert.ProductIdeal.nD Cert.ProductIdeal.τ Cert.ProductIdeal.sig) → Buf (Elt Ideal) ℓ) (g' : Dev Cert.ProductIdeal.nD → PrngReg), Pre_GemmIdeal m →
    (∀ c : Dev Cert.GemmIdeal.nD,
      m' ((c.tc : Thread Cert.ProductIdeal.nD Cert.ProductIdeal.τ).loc Cert.ProductIdeal.main_arg0) = m ((c.tc : Thread Cert.GemmIdeal.nD Cert.GemmIdeal.τ).loc Cert.GemmIdeal.main_arg0)
      ∧ m' ((c.tc : Thread Cert.ProductIdeal.nD Cert.ProductIdeal.τ).loc Cert.ProductIdeal.main_arg1) = m ((c.tc : Thread Cert.GemmIdeal.nD Cert.GemmIdeal.τ).loc Cert.GemmIdeal.main_arg1)
      ∧ m' ((c.tc : Thread Cert.ProductIdeal.nD Cert.ProductIdeal.τ).loc Cert.ProductIdeal.main_arg2) = m ((c.tc : Thread Cert.GemmIdeal.nD Cert.GemmIdeal.τ).loc Cert.GemmIdeal.main_arg2)
      ∧ m' ((c.tc : Thread Cert.ProductIdeal.nD Cert.ProductIdeal.τ).loc Cert.ProductIdeal.main_arg3) = m ((c.tc : Thread Cert.GemmIdeal.nD Cert.GemmIdeal.τ).loc Cert.GemmIdeal.main_arg3)) →
    ∃ (v0 : (c : Dev Cert.GemmIdeal.nD) → Buf (Elt Ideal) ((c.tc : Thread Cert.GemmIdeal.nD Cert.GemmIdeal.τ).loc Cert.GemmIdeal.main_v0)),
      θ_run (Cert.GemmIdeal.defs (F := Ideal)) (onTc (τ := Cert.GemmIdeal.τ) (Cert.GemmIdeal.main (F := Ideal))) ⟨m, fun _ => 0, g⟩ (fun r => ∀ c : Dev Cert.GemmIdeal.nD,
          r.2.mem ((c.tc : Thread Cert.GemmIdeal.nD Cert.GemmIdeal.τ).loc Cert.GemmIdeal.main_v0) = v0 c
          ∧ r.2.mem ((c.tc : Thread Cert.GemmIdeal.nD Cert.GemmIdeal.τ).loc Cert.GemmIdeal.main_arg0) = m ((c.tc : Thread Cert.GemmIdeal.nD Cert.GemmIdeal.τ).loc Cert.GemmIdeal.main_arg0)
          ∧ r.2.mem ((c.tc : Thread Cert.GemmIdeal.nD Cert.GemmIdeal.τ).loc Cert.GemmIdeal.main_arg1) = m ((c.tc : Thread Cert.GemmIdeal.nD Cert.GemmIdeal.τ).loc Cert.GemmIdeal.main_arg1)
          ∧ r.2.mem ((c.tc : Thread Cert.GemmIdeal.nD Cert.GemmIdeal.τ).loc Cert.GemmIdeal.main_arg2) = m ((c.tc : Thread Cert.GemmIdeal.nD Cert.GemmIdeal.τ).loc Cert.GemmIdeal.main_arg2)
          ∧ r.2.mem ((c.tc : Thread Cert.GemmIdeal.nD Cert.GemmIdeal.τ).loc Cert.GemmIdeal.main_arg3) = m ((c.tc : Thread Cert.GemmIdeal.nD Cert.GemmIdeal.τ).loc Cert.GemmIdeal.main_arg3))
      ∧ θ_run (Cert.ProductIdeal.defs (F := Ideal)) (onTc (τ := Cert.ProductIdeal.τ) (Cert.ProductIdeal.main (F := Ideal))) ⟨m', fun _ => 0, g'⟩ (fun r => ∀ c : Dev Cert.ProductIdeal.nD,
          r.2.mem ((c.tc : Thread Cert.ProductIdeal.nD Cert.ProductIdeal.τ).loc Cert.ProductIdeal.main_v0) = v0 c
          ∧ r.2.mem ((c.tc : Thread Cert.ProductIdeal.nD Cert.ProductIdeal.τ).loc Cert.ProductIdeal.main_arg0) = m' ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m' ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m' ((c.tc : Thread Cert.ProductIdeal.nD Cert.ProductIdeal.τ).loc Cert.ProductIdeal.main_arg2)
          ∧ r.2.mem ((c.tc : Thread Cert.ProductIdeal.nD Cert.ProductIdeal.τ).loc Cert.ProductIdeal.main_arg3) = m' ((c.tc : Thread Cert.ProductIdeal.nD Cert.ProductIdeal.τ).loc Cert.ProductIdeal.main_arg3))

def Claim : Prop :=
  ∃ (hKernel : Cert.Kernel.Facts) (hKernelIdeal : Cert.KernelIdeal.Facts) (hReferenceIdeal : Cert.ReferenceIdeal.Facts) (hGemm : Cert.Gemm.Facts) (hGemmIdeal : Cert.GemmIdeal.Facts) (hProductIdeal : Cert.ProductIdeal.Facts),
    quiescent_Kernel (hKernel := hKernel)
    ∧ quiescent_KernelIdeal (hKernelIdeal := hKernelIdeal)
    ∧ quiescent_ReferenceIdeal (hReferenceIdeal := hReferenceIdeal)
    ∧ quiescent_Gemm (hGemm := hGemm)
    ∧ quiescent_GemmIdeal (hGemmIdeal := hGemmIdeal)
    ∧ quiescent_ProductIdeal (hProductIdeal := hProductIdeal)
    ∧ preserves_Kernel_KernelIdeal
    ∧ algebraic_KernelIdeal_ReferenceIdeal (hKernelIdeal := hKernelIdeal) (hReferenceIdeal := hReferenceIdeal)
    ∧ preserves_Gemm_GemmIdeal
    ∧ algebraic_GemmIdeal_ProductIdeal (hGemmIdeal := hGemmIdeal) (hProductIdeal := hProductIdeal)
-- ==== Kernel.lean ====
abbrev S4096x8192 : Shape := ⟨2, ![4096, 8192]⟩
abbrev S2x128x8192 : Shape := ⟨3, ![2, 128, 8192]⟩
abbrev S128x8192 : Shape := ⟨2, ![128, 8192]⟩
abbrev S2 : Shape := ⟨1, ![2]⟩
abbrev S_ : Shape := ⟨0, ![]⟩
abbrev S1 : Shape := ⟨1, ![1]⟩
abbrev S1x128x8192 : Shape := ⟨3, ![1, 128, 8192]⟩

abbrev nBuf : Space → Nat
  | .hbm => 3
  | .vmem => 2
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S2x128x8192, .f32⟩
  | .local _ .vmem, ⟨0, _⟩ => ⟨S128x8192, .f32⟩
  | .local _ .vmem, ⟨1, _⟩ => ⟨S128x8192, .f32⟩
  | _, _ => ⟨S4096x8192, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => true
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 1 6 bufScoped semScoped dmaSemScoped tileCredit tileCredit_eq_zero tileCredit_pos

abbrev main_arg0 : Ref sig .tc := ⟨.hbm, 0, rfl⟩
abbrev main_v1_0 : Ref sig .tc := ⟨.hbm, 1, rfl⟩
abbrev main_v1_1 : Ref sig .tc := ⟨.hbm, 2, rfl⟩
abbrev cc0_scratch0 : Ref sig .tc := ⟨.vmem, 0, rfl⟩
abbrev cc0_scratch1 : Ref sig .tc := ⟨.vmem, 1, rfl⟩

abbrev nD : Nat := 32
abbrev τ : Topo := Topo.v7x

variable {F : FTy → Type} [FloatOps F]

abbrev grid0 : Pipeline.Grid := .none

def k0_off1 (d0 : Dev nD) (c0_i32_6 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v12 : BitVec 32 := Scalar.subi v2 c0_i32_6
  let c64_i32 : BitVec 32 := 64#32
  let v13 : BitVec 32 := Scalar.addi v12 c64_i32
  let c32_i32_7 : BitVec 32 := 32#32
  let v14 : BitVec 32 := Scalar.remsi v13 c32_i32_7
  let c128_i32 : BitVec 32 := 128#32
  let v19 : BitVec 32 := Scalar.muli v14 c128_i32
  let c0_i32_19 : BitVec 32 := 0#32
  ![v19.toNat, 0]
def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_15 : BitVec 32 := 1#32
  let v20 : BitVec 32 := Scalar.muli v7 c1_i32_15
  let v21 : BitVec 32 := Scalar.addi c0_i32_16 v20
  v21.toNat
def k0_off2 (d0 : Dev nD) (c0_i32_8 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v15 : BitVec 32 := Scalar.subi v2 c0_i32_8
  let c1_i32_9 : BitVec 32 := 1#32
  let v16 : BitVec 32 := Scalar.subi v15 c1_i32_9
  let c64_i32_10 : BitVec 32 := 64#32
  let v17 : BitVec 32 := Scalar.addi v16 c64_i32_10
  let c32_i32_11 : BitVec 32 := 32#32
  let v18 : BitVec 32 := Scalar.remsi v17 c32_i32_11
  let c128_i32_35 : BitVec 32 := 128#32
  let v41 : BitVec 32 := Scalar.muli v18 c128_i32_35
  let c0_i32_37 : BitVec 32 := 0#32
  ![v41.toNat, 0]
def k0_dev2 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_59 : BitVec 32 := 1#32
  let v69 : BitVec 32 := Scalar.muli v5 c1_i32_59
  let v70 : BitVec 32 := Scalar.addi c0_i32_60 v69
  v70.toNat
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_72 : BitVec 32 := 1#32
  let v79 : BitVec 32 := Scalar.muli v7 c1_i32_72
  let v80 : BitVec 32 := Scalar.addi c0_i32_73 v79
  v80.toNat
def k0_dev4 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_117 : BitVec 32 := 1#32
  let v128 : BitVec 32 := Scalar.muli v5 c1_i32_117
  let v129 : BitVec 32 := Scalar.addi c0_i32_118 v128
  v129.toNat
def k0_dev5 (d0 : Dev nD) : Nat :=
  let c0_i32_131 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_130 : BitVec 32 := 1#32
  let v138 : BitVec 32 := Scalar.muli v7 c1_i32_130
  let v139 : BitVec 32 := Scalar.addi c0_i32_131 v138
  v139.toNat
def k0_dev6 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_175 : BitVec 32 := 1#32
  let v187 : BitVec 32 := Scalar.muli v5 c1_i32_175
  let v188 : BitVec 32 := Scalar.addi c0_i32_176 v187
  v188.toNat
def k0_dev7 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_189 : BitVec 32 := 1#32
  let v197 : BitVec 32 := Scalar.muli v7 c1_i32_189
  let v198 : BitVec 32 := Scalar.addi c0_i32_190 v197
  v198.toNat
def k0_dev8 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_234 : BitVec 32 := 1#32
  let v246 : BitVec 32 := Scalar.muli v5 c1_i32_234
  let v247 : BitVec 32 := Scalar.addi c0_i32_235 v246
  v247.toNat
def k0_dev9 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_248 : BitVec 32 := 1#32
  let v256 : BitVec 32 := Scalar.muli v7 c1_i32_248
  let v257 : BitVec 32 := Scalar.addi c0_i32_249 v256
  v257.toNat
def k0_dev10 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_293 : BitVec 32 := 1#32
  let v305 : BitVec 32 := Scalar.muli v5 c1_i32_293
  let v306 : BitVec 32 := Scalar.addi c0_i32_294 v305
  v306.toNat
def k0_dev11 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_307 : BitVec 32 := 1#32
  let v315 : BitVec 32 := Scalar.muli v7 c1_i32_307
  let v316 : BitVec 32 := Scalar.addi c0_i32_308 v315
  v316.toNat
def k0_dev12 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_352 : BitVec 32 := 1#32
  let v364 : BitVec 32 := Scalar.muli v5 c1_i32_352
  let v365 : BitVec 32 := Scalar.addi c0_i32_353 v364
  v365.toNat
def k0_dev13 (d0 : Dev nD) : Nat :=
  let c0_i32_367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_366 : BitVec 32 := 1#32
  let v374 : BitVec 32 := Scalar.muli v7 c1_i32_366
  let v375 : BitVec 32 := Scalar.addi c0_i32_367 v374
  v375.toNat
def k0_dev14 (d0 : Dev nD) : Nat :=
  let c0_i32_412 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_411 : BitVec 32 := 1#32
  let v423 : BitVec 32 := Scalar.muli v5 c1_i32_411
  let v424 : BitVec 32 := Scalar.addi c0_i32_412 v423
  v424.toNat
def k0_dev15 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_425 : BitVec 32 := 1#32
  let v433 : BitVec 32 := Scalar.muli v7 c1_i32_425
  let v434 : BitVec 32 := Scalar.addi c0_i32_426 v433
  v434.toNat
def k0_dev16 (d0 : Dev nD) : Nat :=
  let c0_i32_471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_470 : BitVec 32 := 1#32
  let v482 : BitVec 32 := Scalar.muli v5 c1_i32_470
  let v483 : BitVec 32 := Scalar.addi c0_i32_471 v482
  v483.toNat
def k0_dev17 (d0 : Dev nD) : Nat :=
  let c0_i32_485 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_484 : BitVec 32 := 1#32
  let v492 : BitVec 32 := Scalar.muli v7 c1_i32_484
  let v493 : BitVec 32 := Scalar.addi c0_i32_485 v492
  v493.toNat
def k0_dev18 (d0 : Dev nD) : Nat :=
  let c0_i32_530 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_529 : BitVec 32 := 1#32
  let v541 : BitVec 32 := Scalar.muli v5 c1_i32_529
  let v542 : BitVec 32 := Scalar.addi c0_i32_530 v541
  v542.toNat
def k0_dev19 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_543 : BitVec 32 := 1#32
  let v551 : BitVec 32 := Scalar.muli v7 c1_i32_543
  let v552 : BitVec 32 := Scalar.addi c0_i32_544 v551
  v552.toNat
def k0_dev20 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_588 : BitVec 32 := 1#32
  let v600 : BitVec 32 := Scalar.muli v5 c1_i32_588
  let v601 : BitVec 32 := Scalar.addi c0_i32_589 v600
  v601.toNat
def k0_dev21 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_602 : BitVec 32 := 1#32
  let v610 : BitVec 32 := Scalar.muli v7 c1_i32_602
  let v611 : BitVec 32 := Scalar.addi c0_i32_603 v610
  v611.toNat
def k0_dev22 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_647 : BitVec 32 := 1#32
  let v659 : BitVec 32 := Scalar.muli v5 c1_i32_647
  let v660 : BitVec 32 := Scalar.addi c0_i32_648 v659
  v660.toNat
def k0_dev23 (d0 : Dev nD) : Nat :=
  let c0_i32_662 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_661 : BitVec 32 := 1#32
  let v669 : BitVec 32 := Scalar.muli v7 c1_i32_661
  let v670 : BitVec 32 := Scalar.addi c0_i32_662 v669
  v670.toNat
def k0_dev24 (d0 : Dev nD) : Nat :=
  let c0_i32_707 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_706 : BitVec 32 := 1#32
  let v718 : BitVec 32 := Scalar.muli v5 c1_i32_706
  let v719 : BitVec 32 := Scalar.addi c0_i32_707 v718
  v719.toNat
def k0_dev25 (d0 : Dev nD) : Nat :=
  let c0_i32_721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_720 : BitVec 32 := 1#32
  let v728 : BitVec 32 := Scalar.muli v7 c1_i32_720
  let v729 : BitVec 32 := Scalar.addi c0_i32_721 v728
  v729.toNat
def k0_dev26 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_765 : BitVec 32 := 1#32
  let v777 : BitVec 32 := Scalar.muli v5 c1_i32_765
  let v778 : BitVec 32 := Scalar.addi c0_i32_766 v777
  v778.toNat
def k0_dev27 (d0 : Dev nD) : Nat :=
  let c0_i32_780 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_779 : BitVec 32 := 1#32
  let v787 : BitVec 32 := Scalar.muli v7 c1_i32_779
  let v788 : BitVec 32 := Scalar.addi c0_i32_780 v787
  v788.toNat
def k0_dev28 (d0 : Dev nD) : Nat :=
  let c0_i32_825 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_824 : BitVec 32 := 1#32
  let v836 : BitVec 32 := Scalar.muli v5 c1_i32_824
  let v837 : BitVec 32 := Scalar.addi c0_i32_825 v836
  v837.toNat
def k0_dev29 (d0 : Dev nD) : Nat :=
  let c0_i32_839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_838 : BitVec 32 := 1#32
  let v846 : BitVec 32 := Scalar.muli v7 c1_i32_838
  let v847 : BitVec 32 := Scalar.addi c0_i32_839 v846
  v847.toNat
def k0_dev30 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_883 : BitVec 32 := 1#32
  let v895 : BitVec 32 := Scalar.muli v5 c1_i32_883
  let v896 : BitVec 32 := Scalar.addi c0_i32_884 v895
  v896.toNat
def k0_dev31 (d0 : Dev nD) : Nat :=
  let c0_i32_898 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_897 : BitVec 32 := 1#32
  let v905 : BitVec 32 := Scalar.muli v7 c1_i32_897
  let v906 : BitVec 32 := Scalar.addi c0_i32_898 v905
  v906.toNat
def k0_dev32 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_942 : BitVec 32 := 1#32
  let v954 : BitVec 32 := Scalar.muli v5 c1_i32_942
  let v955 : BitVec 32 := Scalar.addi c0_i32_943 v954
  v955.toNat
def k0_dev33 (d0 : Dev nD) : Nat :=
  let c0_i32_957 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_956 : BitVec 32 := 1#32
  let v964 : BitVec 32 := Scalar.muli v7 c1_i32_956
  let v965 : BitVec 32 := Scalar.addi c0_i32_957 v964
  v965.toNat
def k0_dev34 (d0 : Dev nD) : Nat :=
  let c0_i32_1002 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1001 : BitVec 32 := 1#32
  let v1013 : BitVec 32 := Scalar.muli v5 c1_i32_1001
  let v1014 : BitVec 32 := Scalar.addi c0_i32_1002 v1013
  v1014.toNat
def k0_dev35 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1015 : BitVec 32 := 1#32
  let v1023 : BitVec 32 := Scalar.muli v7 c1_i32_1015
  let v1024 : BitVec 32 := Scalar.addi c0_i32_1016 v1023
  v1024.toNat
def k0_dev36 (d0 : Dev nD) : Nat :=
  let c0_i32_1061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1060 : BitVec 32 := 1#32
  let v1072 : BitVec 32 := Scalar.muli v5 c1_i32_1060
  let v1073 : BitVec 32 := Scalar.addi c0_i32_1061 v1072
  v1073.toNat
def k0_dev37 (d0 : Dev nD) : Nat :=
  let c0_i32_1075 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1074 : BitVec 32 := 1#32
  let v1082 : BitVec 32 := Scalar.muli v7 c1_i32_1074
  let v1083 : BitVec 32 := Scalar.addi c0_i32_1075 v1082
  v1083.toNat
def k0_dev38 (d0 : Dev nD) : Nat :=
  let c0_i32_1120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1119 : BitVec 32 := 1#32
  let v1131 : BitVec 32 := Scalar.muli v5 c1_i32_1119
  let v1132 : BitVec 32 := Scalar.addi c0_i32_1120 v1131
  v1132.toNat
def k0_dev39 (d0 : Dev nD) : Nat :=
  let c0_i32_1134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1133 : BitVec 32 := 1#32
  let v1141 : BitVec 32 := Scalar.muli v7 c1_i32_1133
  let v1142 : BitVec 32 := Scalar.addi c0_i32_1134 v1141
  v1142.toNat
def k0_dev40 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1178 : BitVec 32 := 1#32
  let v1190 : BitVec 32 := Scalar.muli v5 c1_i32_1178
  let v1191 : BitVec 32 := Scalar.addi c0_i32_1179 v1190
  v1191.toNat
def k0_dev41 (d0 : Dev nD) : Nat :=
  let c0_i32_1193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1192 : BitVec 32 := 1#32
  let v1200 : BitVec 32 := Scalar.muli v7 c1_i32_1192
  let v1201 : BitVec 32 := Scalar.addi c0_i32_1193 v1200
  v1201.toNat
def k0_dev42 (d0 : Dev nD) : Nat :=
  let c0_i32_1238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1237 : BitVec 32 := 1#32
  let v1249 : BitVec 32 := Scalar.muli v5 c1_i32_1237
  let v1250 : BitVec 32 := Scalar.addi c0_i32_1238 v1249
  v1250.toNat
def k0_dev43 (d0 : Dev nD) : Nat :=
  let c0_i32_1252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1251 : BitVec 32 := 1#32
  let v1259 : BitVec 32 := Scalar.muli v7 c1_i32_1251
  let v1260 : BitVec 32 := Scalar.addi c0_i32_1252 v1259
  v1260.toNat
def k0_dev44 (d0 : Dev nD) : Nat :=
  let c0_i32_1297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1296 : BitVec 32 := 1#32
  let v1308 : BitVec 32 := Scalar.muli v5 c1_i32_1296
  let v1309 : BitVec 32 := Scalar.addi c0_i32_1297 v1308
  v1309.toNat
def k0_dev45 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1310 : BitVec 32 := 1#32
  let v1318 : BitVec 32 := Scalar.muli v7 c1_i32_1310
  let v1319 : BitVec 32 := Scalar.addi c0_i32_1311 v1318
  v1319.toNat
def k0_dev46 (d0 : Dev nD) : Nat :=
  let c0_i32_1356 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1355 : BitVec 32 := 1#32
  let v1367 : BitVec 32 := Scalar.muli v5 c1_i32_1355
  let v1368 : BitVec 32 := Scalar.addi c0_i32_1356 v1367
  v1368.toNat
def k0_dev47 (d0 : Dev nD) : Nat :=
  let c0_i32_1370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1369 : BitVec 32 := 1#32
  let v1377 : BitVec 32 := Scalar.muli v7 c1_i32_1369
  let v1378 : BitVec 32 := Scalar.addi c0_i32_1370 v1377
  v1378.toNat
def k0_dev48 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1414 : BitVec 32 := 1#32
  let v1426 : BitVec 32 := Scalar.muli v5 c1_i32_1414
  let v1427 : BitVec 32 := Scalar.addi c0_i32_1415 v1426
  v1427.toNat
def k0_dev49 (d0 : Dev nD) : Nat :=
  let c0_i32_1429 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1428 : BitVec 32 := 1#32
  let v1436 : BitVec 32 := Scalar.muli v7 c1_i32_1428
  let v1437 : BitVec 32 := Scalar.addi c0_i32_1429 v1436
  v1437.toNat
def k0_dev50 (d0 : Dev nD) : Nat :=
  let c0_i32_1474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1473 : BitVec 32 := 1#32
  let v1485 : BitVec 32 := Scalar.muli v5 c1_i32_1473
  let v1486 : BitVec 32 := Scalar.addi c0_i32_1474 v1485
  v1486.toNat
def k0_dev51 (d0 : Dev nD) : Nat :=
  let c0_i32_1488 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1487 : BitVec 32 := 1#32
  let v1495 : BitVec 32 := Scalar.muli v7 c1_i32_1487
  let v1496 : BitVec 32 := Scalar.addi c0_i32_1488 v1495
  v1496.toNat
def k0_dev52 (d0 : Dev nD) : Nat :=
  let c0_i32_1533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1532 : BitVec 32 := 1#32
  let v1544 : BitVec 32 := Scalar.muli v5 c1_i32_1532
  let v1545 : BitVec 32 := Scalar.addi c0_i32_1533 v1544
  v1545.toNat
def k0_dev53 (d0 : Dev nD) : Nat :=
  let c0_i32_1547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1546 : BitVec 32 := 1#32
  let v1554 : BitVec 32 := Scalar.muli v7 c1_i32_1546
  let v1555 : BitVec 32 := Scalar.addi c0_i32_1547 v1554
  v1555.toNat
def k0_dev54 (d0 : Dev nD) : Nat :=
  let c0_i32_1592 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1591 : BitVec 32 := 1#32
  let v1603 : BitVec 32 := Scalar.muli v5 c1_i32_1591
  let v1604 : BitVec 32 := Scalar.addi c0_i32_1592 v1603
  v1604.toNat
def k0_dev55 (d0 : Dev nD) : Nat :=
  let c0_i32_1606 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1605 : BitVec 32 := 1#32
  let v1613 : BitVec 32 := Scalar.muli v7 c1_i32_1605
  let v1614 : BitVec 32 := Scalar.addi c0_i32_1606 v1613
  v1614.toNat
def k0_dev56 (d0 : Dev nD) : Nat :=
  let c0_i32_1651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1650 : BitVec 32 := 1#32
  let v1662 : BitVec 32 := Scalar.muli v5 c1_i32_1650
  let v1663 : BitVec 32 := Scalar.addi c0_i32_1651 v1662
  v1663.toNat
def k0_dev57 (d0 : Dev nD) : Nat :=
  let c0_i32_1665 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1664 : BitVec 32 := 1#32
  let v1672 : BitVec 32 := Scalar.muli v7 c1_i32_1664
  let v1673 : BitVec 32 := Scalar.addi c0_i32_1665 v1672
  v1673.toNat
def k0_dev58 (d0 : Dev nD) : Nat :=
  let c0_i32_1710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1709 : BitVec 32 := 1#32
  let v1721 : BitVec 32 := Scalar.muli v5 c1_i32_1709
  let v1722 : BitVec 32 := Scalar.addi c0_i32_1710 v1721
  v1722.toNat
def k0_dev59 (d0 : Dev nD) : Nat :=
  let c0_i32_1724 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1723 : BitVec 32 := 1#32
  let v1731 : BitVec 32 := Scalar.muli v7 c1_i32_1723
  let v1732 : BitVec 32 := Scalar.addi c0_i32_1724 v1731
  v1732.toNat
def k0_dev60 (d0 : Dev nD) : Nat :=
  let c0_i32_1769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1768 : BitVec 32 := 1#32
  let v1780 : BitVec 32 := Scalar.muli v5 c1_i32_1768
  let v1781 : BitVec 32 := Scalar.addi c0_i32_1769 v1780
  v1781.toNat
def k0_dev61 (d0 : Dev nD) : Nat :=
  let c0_i32_1783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1782 : BitVec 32 := 1#32
  let v1790 : BitVec 32 := Scalar.muli v7 c1_i32_1782
  let v1791 : BitVec 32 := Scalar.addi c0_i32_1783 v1790
  v1791.toNat
def k0_dev62 (d0 : Dev nD) : Nat :=
  let c0_i32_1828 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1827 : BitVec 32 := 1#32
  let v1839 : BitVec 32 := Scalar.muli v5 c1_i32_1827
  let v1840 : BitVec 32 := Scalar.addi c0_i32_1828 v1839
  v1840.toNat
def k0_off3 (d0 : Dev nD) (c0_i32_1830 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1829 : BitVec 32 := 1#32
  let v1841 : BitVec 32 := Scalar.addi v2 c1_i32_1829
  let v1842 : BitVec 32 := Scalar.subi v1841 c0_i32_1830
  let c64_i32_1831 : BitVec 32 := 64#32
  let v1843 : BitVec 32 := Scalar.addi v1842 c64_i32_1831
  let c32_i32_1832 : BitVec 32 := 32#32
  let v1844 : BitVec 32 := Scalar.remsi v1843 c32_i32_1832
  let c128_i32_1838 : BitVec 32 := 128#32
  let v1848 : BitVec 32 := Scalar.muli v1844 c128_i32_1838
  let c0_i32_1846 : BitVec 32 := 0#32
  ![v1848.toNat, 0]
def k0_dev63 (d0 : Dev nD) : Nat :=
  let c0_i32_1843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1842 : BitVec 32 := 1#32
  let v1849 : BitVec 32 := Scalar.muli v7 c1_i32_1842
  let v1850 : BitVec 32 := Scalar.addi c0_i32_1843 v1849
  v1850.toNat
def k0_dev64 (d0 : Dev nD) : Nat :=
  let c0_i32_1875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1874 : BitVec 32 := 1#32
  let v1881 : BitVec 32 := Scalar.muli v5 c1_i32_1874
  let v1882 : BitVec 32 := Scalar.addi c0_i32_1875 v1881
  v1882.toNat
def k0_dev65 (d0 : Dev nD) : Nat :=
  let c0_i32_1890 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1889 : BitVec 32 := 1#32
  let v1891 : BitVec 32 := Scalar.muli v7 c1_i32_1889
  let v1892 : BitVec 32 := Scalar.addi c0_i32_1890 v1891
  v1892.toNat
def k0_dev66 (d0 : Dev nD) : Nat :=
  let c0_i32_1922 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1921 : BitVec 32 := 1#32
  let v1923 : BitVec 32 := Scalar.muli v5 c1_i32_1921
  let v1924 : BitVec 32 := Scalar.addi c0_i32_1922 v1923
  v1924.toNat
def k0_dev67 (d0 : Dev nD) : Nat :=
  let c0_i32_1937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1936 : BitVec 32 := 1#32
  let v1933 : BitVec 32 := Scalar.muli v7 c1_i32_1936
  let v1934 : BitVec 32 := Scalar.addi c0_i32_1937 v1933
  v1934.toNat
def k0_dev68 (d0 : Dev nD) : Nat :=
  let c0_i32_1969 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1968 : BitVec 32 := 1#32
  let v1965 : BitVec 32 := Scalar.muli v5 c1_i32_1968
  let v1966 : BitVec 32 := Scalar.addi c0_i32_1969 v1965
  v1966.toNat
def k0_dev69 (d0 : Dev nD) : Nat :=
  let c0_i32_1984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1983 : BitVec 32 := 1#32
  let v1975 : BitVec 32 := Scalar.muli v7 c1_i32_1983
  let v1976 : BitVec 32 := Scalar.addi c0_i32_1984 v1975
  v1976.toNat
def k0_dev70 (d0 : Dev nD) : Nat :=
  let c0_i32_2016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2015 : BitVec 32 := 1#32
  let v2007 : BitVec 32 := Scalar.muli v5 c1_i32_2015
  let v2008 : BitVec 32 := Scalar.addi c0_i32_2016 v2007
  v2008.toNat
def k0_dev71 (d0 : Dev nD) : Nat :=
  let c0_i32_2031 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2030 : BitVec 32 := 1#32
  let v2017 : BitVec 32 := Scalar.muli v7 c1_i32_2030
  let v2018 : BitVec 32 := Scalar.addi c0_i32_2031 v2017
  v2018.toNat
def k0_dev72 (d0 : Dev nD) : Nat :=
  let c0_i32_2063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2062 : BitVec 32 := 1#32
  let v2049 : BitVec 32 := Scalar.muli v5 c1_i32_2062
  let v2050 : BitVec 32 := Scalar.addi c0_i32_2063 v2049
  v2050.toNat
def k0_dev73 (d0 : Dev nD) : Nat :=
  let c0_i32_2078 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2077 : BitVec 32 := 1#32
  let v2059 : BitVec 32 := Scalar.muli v7 c1_i32_2077
  let v2060 : BitVec 32 := Scalar.addi c0_i32_2078 v2059
  v2060.toNat
def k0_dev74 (d0 : Dev nD) : Nat :=
  let c0_i32_2110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2109 : BitVec 32 := 1#32
  let v2091 : BitVec 32 := Scalar.muli v5 c1_i32_2109
  let v2092 : BitVec 32 := Scalar.addi c0_i32_2110 v2091
  v2092.toNat
def k0_dev75 (d0 : Dev nD) : Nat :=
  let c0_i32_2125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2124 : BitVec 32 := 1#32
  let v2101 : BitVec 32 := Scalar.muli v7 c1_i32_2124
  let v2102 : BitVec 32 := Scalar.addi c0_i32_2125 v2101
  v2102.toNat
def k0_dev76 (d0 : Dev nD) : Nat :=
  let c0_i32_2157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2156 : BitVec 32 := 1#32
  let v2133 : BitVec 32 := Scalar.muli v5 c1_i32_2156
  let v2134 : BitVec 32 := Scalar.addi c0_i32_2157 v2133
  v2134.toNat
def k0_dev77 (d0 : Dev nD) : Nat :=
  let c0_i32_2172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2171 : BitVec 32 := 1#32
  let v2143 : BitVec 32 := Scalar.muli v7 c1_i32_2171
  let v2144 : BitVec 32 := Scalar.addi c0_i32_2172 v2143
  v2144.toNat
def k0_dev78 (d0 : Dev nD) : Nat :=
  let c0_i32_2204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2203 : BitVec 32 := 1#32
  let v2175 : BitVec 32 := Scalar.muli v5 c1_i32_2203
  let v2176 : BitVec 32 := Scalar.addi c0_i32_2204 v2175
  v2176.toNat
def k0_dev79 (d0 : Dev nD) : Nat :=
  let c0_i32_2219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2218 : BitVec 32 := 1#32
  let v2185 : BitVec 32 := Scalar.muli v7 c1_i32_2218
  let v2186 : BitVec 32 := Scalar.addi c0_i32_2219 v2185
  v2186.toNat
def k0_dev80 (d0 : Dev nD) : Nat :=
  let c0_i32_2251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2250 : BitVec 32 := 1#32
  let v2217 : BitVec 32 := Scalar.muli v5 c1_i32_2250
  let v2218 : BitVec 32 := Scalar.addi c0_i32_2251 v2217
  v2218.toNat
def k0_dev81 (d0 : Dev nD) : Nat :=
  let c0_i32_2266 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2265 : BitVec 32 := 1#32
  let v2227 : BitVec 32 := Scalar.muli v7 c1_i32_2265
  let v2228 : BitVec 32 := Scalar.addi c0_i32_2266 v2227
  v2228.toNat
def k0_dev82 (d0 : Dev nD) : Nat :=
  let c0_i32_2298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2297 : BitVec 32 := 1#32
  let v2259 : BitVec 32 := Scalar.muli v5 c1_i32_2297
  let v2260 : BitVec 32 := Scalar.addi c0_i32_2298 v2259
  v2260.toNat
def k0_dev83 (d0 : Dev nD) : Nat :=
  let c0_i32_2313 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2312 : BitVec 32 := 1#32
  let v2269 : BitVec 32 := Scalar.muli v7 c1_i32_2312
  let v2270 : BitVec 32 := Scalar.addi c0_i32_2313 v2269
  v2270.toNat
def k0_dev84 (d0 : Dev nD) : Nat :=
  let c0_i32_2345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2344 : BitVec 32 := 1#32
  let v2301 : BitVec 32 := Scalar.muli v5 c1_i32_2344
  let v2302 : BitVec 32 := Scalar.addi c0_i32_2345 v2301
  v2302.toNat
def k0_dev85 (d0 : Dev nD) : Nat :=
  let c0_i32_2360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2359 : BitVec 32 := 1#32
  let v2311 : BitVec 32 := Scalar.muli v7 c1_i32_2359
  let v2312 : BitVec 32 := Scalar.addi c0_i32_2360 v2311
  v2312.toNat
def k0_dev86 (d0 : Dev nD) : Nat :=
  let c0_i32_2392 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2391 : BitVec 32 := 1#32
  let v2343 : BitVec 32 := Scalar.muli v5 c1_i32_2391
  let v2344 : BitVec 32 := Scalar.addi c0_i32_2392 v2343
  v2344.toNat
def k0_dev87 (d0 : Dev nD) : Nat :=
  let c0_i32_2407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2406 : BitVec 32 := 1#32
  let v2353 : BitVec 32 := Scalar.muli v7 c1_i32_2406
  let v2354 : BitVec 32 := Scalar.addi c0_i32_2407 v2353
  v2354.toNat
def k0_dev88 (d0 : Dev nD) : Nat :=
  let c0_i32_2439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2438 : BitVec 32 := 1#32
  let v2385 : BitVec 32 := Scalar.muli v5 c1_i32_2438
  let v2386 : BitVec 32 := Scalar.addi c0_i32_2439 v2385
  v2386.toNat
def k0_dev89 (d0 : Dev nD) : Nat :=
  let c0_i32_2454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2453 : BitVec 32 := 1#32
  let v2395 : BitVec 32 := Scalar.muli v7 c1_i32_2453
  let v2396 : BitVec 32 := Scalar.addi c0_i32_2454 v2395
  v2396.toNat
def k0_dev90 (d0 : Dev nD) : Nat :=
  let c0_i32_2486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2485 : BitVec 32 := 1#32
  let v2427 : BitVec 32 := Scalar.muli v5 c1_i32_2485
  let v2428 : BitVec 32 := Scalar.addi c0_i32_2486 v2427
  v2428.toNat
def k0_dev91 (d0 : Dev nD) : Nat :=
  let c0_i32_2501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2500 : BitVec 32 := 1#32
  let v2437 : BitVec 32 := Scalar.muli v7 c1_i32_2500
  let v2438 : BitVec 32 := Scalar.addi c0_i32_2501 v2437
  v2438.toNat
def k0_dev92 (d0 : Dev nD) : Nat :=
  let c0_i32_2533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2532 : BitVec 32 := 1#32
  let v2469 : BitVec 32 := Scalar.muli v5 c1_i32_2532
  let v2470 : BitVec 32 := Scalar.addi c0_i32_2533 v2469
  v2470.toNat
def k0_dev93 (d0 : Dev nD) : Nat :=
  let c0_i32_2548 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2547 : BitVec 32 := 1#32
  let v2479 : BitVec 32 := Scalar.muli v7 c1_i32_2547
  let v2480 : BitVec 32 := Scalar.addi c0_i32_2548 v2479
  v2480.toNat
def k0_dev94 (d0 : Dev nD) : Nat :=
  let c0_i32_2580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2579 : BitVec 32 := 1#32
  let v2511 : BitVec 32 := Scalar.muli v5 c1_i32_2579
  let v2512 : BitVec 32 := Scalar.addi c0_i32_2580 v2511
  v2512.toNat
def k0_dev95 (d0 : Dev nD) : Nat :=
  let c0_i32_2595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2594 : BitVec 32 := 1#32
  let v2521 : BitVec 32 := Scalar.muli v7 c1_i32_2594
  let v2522 : BitVec 32 := Scalar.addi c0_i32_2595 v2521
  v2522.toNat
def k0_dev96 (d0 : Dev nD) : Nat :=
  let c0_i32_2627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2626 : BitVec 32 := 1#32
  let v2553 : BitVec 32 := Scalar.muli v5 c1_i32_2626
  let v2554 : BitVec 32 := Scalar.addi c0_i32_2627 v2553
  v2554.toNat
def k0_dev97 (d0 : Dev nD) : Nat :=
  let c0_i32_2642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2641 : BitVec 32 := 1#32
  let v2563 : BitVec 32 := Scalar.muli v7 c1_i32_2641
  let v2564 : BitVec 32 := Scalar.addi c0_i32_2642 v2563
  v2564.toNat
def k0_dev98 (d0 : Dev nD) : Nat :=
  let c0_i32_2674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2673 : BitVec 32 := 1#32
  let v2595 : BitVec 32 := Scalar.muli v5 c1_i32_2673
  let v2596 : BitVec 32 := Scalar.addi c0_i32_2674 v2595
  v2596.toNat
def k0_dev99 (d0 : Dev nD) : Nat :=
  let c0_i32_2689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2688 : BitVec 32 := 1#32
  let v2605 : BitVec 32 := Scalar.muli v7 c1_i32_2688
  let v2606 : BitVec 32 := Scalar.addi c0_i32_2689 v2605
  v2606.toNat
def k0_dev100 (d0 : Dev nD) : Nat :=
  let c0_i32_2721 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2720 : BitVec 32 := 1#32
  let v2637 : BitVec 32 := Scalar.muli v5 c1_i32_2720
  let v2638 : BitVec 32 := Scalar.addi c0_i32_2721 v2637
  v2638.toNat
def k0_dev101 (d0 : Dev nD) : Nat :=
  let c0_i32_2736 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2735 : BitVec 32 := 1#32
  let v2647 : BitVec 32 := Scalar.muli v7 c1_i32_2735
  let v2648 : BitVec 32 := Scalar.addi c0_i32_2736 v2647
  v2648.toNat
def k0_dev102 (d0 : Dev nD) : Nat :=
  let c0_i32_2768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2767 : BitVec 32 := 1#32
  let v2679 : BitVec 32 := Scalar.muli v5 c1_i32_2767
  let v2680 : BitVec 32 := Scalar.addi c0_i32_2768 v2679
  v2680.toNat
def k0_dev103 (d0 : Dev nD) : Nat :=
  let c0_i32_2783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2782 : BitVec 32 := 1#32
  let v2689 : BitVec 32 := Scalar.muli v7 c1_i32_2782
  let v2690 : BitVec 32 := Scalar.addi c0_i32_2783 v2689
  v2690.toNat
def k0_dev104 (d0 : Dev nD) : Nat :=
  let c0_i32_2815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2814 : BitVec 32 := 1#32
  let v2721 : BitVec 32 := Scalar.muli v5 c1_i32_2814
  let v2722 : BitVec 32 := Scalar.addi c0_i32_2815 v2721
  v2722.toNat
def k0_dev105 (d0 : Dev nD) : Nat :=
  let c0_i32_2830 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2829 : BitVec 32 := 1#32
  let v2731 : BitVec 32 := Scalar.muli v7 c1_i32_2829
  let v2732 : BitVec 32 := Scalar.addi c0_i32_2830 v2731
  v2732.toNat
def k0_dev106 (d0 : Dev nD) : Nat :=
  let c0_i32_2862 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2861 : BitVec 32 := 1#32
  let v2763 : BitVec 32 := Scalar.muli v5 c1_i32_2861
  let v2764 : BitVec 32 := Scalar.addi c0_i32_2862 v2763
  v2764.toNat
def k0_dev107 (d0 : Dev nD) : Nat :=
  let c0_i32_2877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2876 : BitVec 32 := 1#32
  let v2773 : BitVec 32 := Scalar.muli v7 c1_i32_2876
  let v2774 : BitVec 32 := Scalar.addi c0_i32_2877 v2773
  v2774.toNat
def k0_dev108 (d0 : Dev nD) : Nat :=
  let c0_i32_2909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2908 : BitVec 32 := 1#32
  let v2805 : BitVec 32 := Scalar.muli v5 c1_i32_2908
  let v2806 : BitVec 32 := Scalar.addi c0_i32_2909 v2805
  v2806.toNat
def k0_dev109 (d0 : Dev nD) : Nat :=
  let c0_i32_2924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2923 : BitVec 32 := 1#32
  let v2815 : BitVec 32 := Scalar.muli v7 c1_i32_2923
  let v2816 : BitVec 32 := Scalar.addi c0_i32_2924 v2815
  v2816.toNat
def k0_dev110 (d0 : Dev nD) : Nat :=
  let c0_i32_2956 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_2955 : BitVec 32 := 1#32
  let v2847 : BitVec 32 := Scalar.muli v5 c1_i32_2955
  let v2848 : BitVec 32 := Scalar.addi c0_i32_2956 v2847
  v2848.toNat
def k0_dev111 (d0 : Dev nD) : Nat :=
  let c0_i32_2971 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_2970 : BitVec 32 := 1#32
  let v2857 : BitVec 32 := Scalar.muli v7 c1_i32_2970
  let v2858 : BitVec 32 := Scalar.addi c0_i32_2971 v2857
  v2858.toNat
def k0_dev112 (d0 : Dev nD) : Nat :=
  let c0_i32_3003 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3002 : BitVec 32 := 1#32
  let v2889 : BitVec 32 := Scalar.muli v5 c1_i32_3002
  let v2890 : BitVec 32 := Scalar.addi c0_i32_3003 v2889
  v2890.toNat
def k0_dev113 (d0 : Dev nD) : Nat :=
  let c0_i32_3018 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3017 : BitVec 32 := 1#32
  let v2899 : BitVec 32 := Scalar.muli v7 c1_i32_3017
  let v2900 : BitVec 32 := Scalar.addi c0_i32_3018 v2899
  v2900.toNat
def k0_dev114 (d0 : Dev nD) : Nat :=
  let c0_i32_3050 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3049 : BitVec 32 := 1#32
  let v2931 : BitVec 32 := Scalar.muli v5 c1_i32_3049
  let v2932 : BitVec 32 := Scalar.addi c0_i32_3050 v2931
  v2932.toNat
def k0_dev115 (d0 : Dev nD) : Nat :=
  let c0_i32_3065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3064 : BitVec 32 := 1#32
  let v2941 : BitVec 32 := Scalar.muli v7 c1_i32_3064
  let v2942 : BitVec 32 := Scalar.addi c0_i32_3065 v2941
  v2942.toNat
def k0_dev116 (d0 : Dev nD) : Nat :=
  let c0_i32_3097 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3096 : BitVec 32 := 1#32
  let v2973 : BitVec 32 := Scalar.muli v5 c1_i32_3096
  let v2974 : BitVec 32 := Scalar.addi c0_i32_3097 v2973
  v2974.toNat
def k0_dev117 (d0 : Dev nD) : Nat :=
  let c0_i32_3112 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3111 : BitVec 32 := 1#32
  let v2983 : BitVec 32 := Scalar.muli v7 c1_i32_3111
  let v2984 : BitVec 32 := Scalar.addi c0_i32_3112 v2983
  v2984.toNat
def k0_dev118 (d0 : Dev nD) : Nat :=
  let c0_i32_3144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3143 : BitVec 32 := 1#32
  let v3015 : BitVec 32 := Scalar.muli v5 c1_i32_3143
  let v3016 : BitVec 32 := Scalar.addi c0_i32_3144 v3015
  v3016.toNat
def k0_dev119 (d0 : Dev nD) : Nat :=
  let c0_i32_3159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3158 : BitVec 32 := 1#32
  let v3025 : BitVec 32 := Scalar.muli v7 c1_i32_3158
  let v3026 : BitVec 32 := Scalar.addi c0_i32_3159 v3025
  v3026.toNat
def k0_dev120 (d0 : Dev nD) : Nat :=
  let c0_i32_3191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3190 : BitVec 32 := 1#32
  let v3057 : BitVec 32 := Scalar.muli v5 c1_i32_3190
  let v3058 : BitVec 32 := Scalar.addi c0_i32_3191 v3057
  v3058.toNat
def k0_dev121 (d0 : Dev nD) : Nat :=
  let c0_i32_3206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3205 : BitVec 32 := 1#32
  let v3067 : BitVec 32 := Scalar.muli v7 c1_i32_3205
  let v3068 : BitVec 32 := Scalar.addi c0_i32_3206 v3067
  v3068.toNat
def k0_dev122 (d0 : Dev nD) : Nat :=
  let c0_i32_3238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3237 : BitVec 32 := 1#32
  let v3099 : BitVec 32 := Scalar.muli v5 c1_i32_3237
  let v3100 : BitVec 32 := Scalar.addi c0_i32_3238 v3099
  v3100.toNat
def k0_dev123 (d0 : Dev nD) : Nat :=
  let c0_i32_3253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_3252 : BitVec 32 := 1#32
  let v3109 : BitVec 32 := Scalar.muli v7 c1_i32_3252
  let v3110 : BitVec 32 := Scalar.addi c0_i32_3253 v3109
  v3110.toNat
def k0_dev124 (d0 : Dev nD) : Nat :=
  let c0_i32_3285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_3284 : BitVec 32 := 1#32
  let v3141 : BitVec 32 := Scalar.muli v5 c1_i32_3284
  let v3142 : BitVec 32 := Scalar.addi c0_i32_3285 v3141
  v3142.toNat
-- ==== ReferenceIdeal.lean ====
abbrev S131072x8192 : Shape := ⟨2, ![131072, 8192]⟩
abbrev S32x4096x8192 : Shape := ⟨3, ![32, 4096, 8192]⟩
abbrev S_ : Shape := ⟨0, ![]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S131072x8192, .f32⟩
  | .hbm, ⟨1, _⟩ => ⟨S32x4096x8192, .f32⟩
  | .hbm, ⟨2, _⟩ => ⟨S_, .f32⟩
  | .hbm, ⟨3, _⟩ => ⟨S4096x8192, .f32⟩
  | _, _ => ⟨S131072x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gemm.lean ====
abbrev S4096x128 : Shape := ⟨2, ![4096, 128]⟩
abbrev S128x8192 : Shape := ⟨2, ![128, 8192]⟩
abbrev S1 : Shape := ⟨1, ![1]⟩
abbrev S4096x8192 : Shape := ⟨2, ![4096, 8192]⟩
abbrev S512x128 : Shape := ⟨2, ![512, 128]⟩
abbrev S512x8192 : Shape := ⟨2, ![512, 8192]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .fp8e4m3⟩
  | .hbm, ⟨1, _⟩ => ⟨S128x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S512x128, .fp8e4m3⟩
  | .local _ .vmem, ⟨1, _⟩ => ⟨S512x128, .fp8e4m3⟩
  | .local _ .vmem, ⟨2, _⟩ => ⟨S128x8192, .fp8e4m3⟩
  | .local _ .vmem, ⟨3, _⟩ => ⟨S512x8192, .f32⟩
  | .local _ .vmem, ⟨4, _⟩ => ⟨S512x8192, .f32⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProductIdeal.lean ====
abbrev S4096x128 : Shape := ⟨2, ![4096, 128]⟩
abbrev S128x8192 : Shape := ⟨2, ![128, 8192]⟩
abbrev S1 : Shape := ⟨1, ![1]⟩
abbrev S4096x8192 : Shape := ⟨2, ![4096, 8192]⟩

abbrev nBuf : Space → Nat
  | .hbm => 5
  | .vmem => 3
  | .smem => 2
  | _ => 0

abbrev bufTy : (tb : Table) → Fin (tcTables nBuf tb) → BufTy
  | .hbm, ⟨0, _⟩ => ⟨S4096x128, .fp8e4m3⟩
  | .hbm, ⟨1, _⟩ => ⟨S128x8192, .fp8e4m3⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x128, .fp8e4m3⟩
  | .local _ .vmem, ⟨1, _⟩ => ⟨S128x8192, .fp8e4m3⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Steps.lean ====
module

public import proofs.«01_k».proof.Proof.Gen.KernelIdeal.Points
public import proofs.«01_k».proof.Proof.Gen.KernelIdeal.Skeleton

@[expose] public section

/-! # The all-reduce body as a list of operations

The printed body is 120 numbered parts, cut every so many statements. Here the same memory operations are named one by one
(`Op`), each with its meaning on device `d` (`Op.prog`), and the body is shown to run the list
`body : List Op` — first the copy of the partial product into the result, then 62 steps around the ring, of which the first 31
add and the last 31 only copy, and the last wait for the neighbour's credits. -/

noncomputable section

namespace Cert.KernelIdeal.Ring

open Idealize.ShloMosaic Idealize.SL.Sem Cert.KernelIdeal.Gen

variable {F : FTy → Type} [FloatOps F]

/-- Programs of one device. -/
abbrev PR (F : FTy → Type) (α : Type) := Prog (TpuEff nD τ sig (Elt F) Λ₀ .tc) α

/-! ## The buffers and semaphores -/

/-- The device's partial product, the result, the two landing slots, and the two VMEM buffers the sum is made in. -/
abbrev pM : Memref sig .tc .hbm S4096x8192 .f32 := Memref.whole main_arg0
abbrev oM : Memref sig .tc .hbm S4096x8192 .f32 := Memref.whole main_v1_0
abbrev rM : Memref sig .tc .hbm S2x128x8192 .f32 := Memref.whole main_v1_1
abbrev accM : Memref sig .tc .vmem S128x8192 .f32 := Memref.whole cc0_scratch0
abbrev tmpM : Memref sig .tc .vmem S128x8192 .f32 := Memref.whole cc0_scratch1

theorem inb_slot : ∀ b : Fin 2, ∀ a, (![b.val, 0, 0] : Fin 3 → Nat) a + S1x128x8192.size a ≤ S2x128x8192.size a := by decide
theorem inb_sem : ∀ b : Fin 2, ∀ a, (![b.val] : Fin 1 → Nat) a + S1.size a ≤ S2.size a := by decide

/-- Landing slot `b`. -/
abbrev slot (b : Fin 2) : Memref sig .tc .hbm S128x8192 .f32 :=
  (rM.slice (Rect.unit (s := S2x128x8192) ![b.val, 0, 0] S1x128x8192.size (inb_slot b)) (fun _ => rfl)).squeeze S128x8192 squeezes_S1x128x8192_S128x8192
/-- The rows of the result at an offset. -/
abbrev rows (off : Fin 2 → Nat) (h : ∀ a, off a + S128x8192.size a ≤ S4096x8192.size a) : Memref sig .tc .hbm S128x8192 .f32 :=
  oM.slice (Rect.unit (s := S4096x8192) off S128x8192.size h) (fun _ => rfl)
/-- The semaphores of the transfer out of, into slot `b`, and of the local copies; the credits. -/
abbrev sendS (b : Fin 2) : DmaSem sig := ((cc0_scratch2.slice (Rect.unit (s := S2) ![b.val] S1.size (inb_sem b))).squeeze S_ squeezes_S1_S_).sem
abbrev recvS (b : Fin 2) : DmaSem sig := ((cc0_scratch3.slice (Rect.unit (s := S2) ![b.val] S1.size (inb_sem b))).squeeze S_ squeezes_S1_S_).sem
abbrev locS (b : Fin 2) : DmaSem sig := ((cc0_scratch4.slice (Rect.unit (s := S2) ![b.val] S1.size (inb_sem b))).squeeze S_ squeezes_S1_S_).sem
abbrev credS : Sem sig := cc0_scratch5.sem

/-- The right and the left neighbour, as the body computes them. -/
abbrev rgt (d : Dev nD) : Dev nD := ⟨k0_dev1 d, k0_dev1_lt d⟩
abbrev lft (d : Dev nD) : Dev nD := ⟨k0_dev2 d, k0_dev2_lt d⟩

/-! ## The operations -/

section at_offset
variable (off : Fin 2 → Nat) (h : ∀ a, off a + S128x8192.size a ≤ S4096x8192.size a)

/-- Send rows of the result into slot `b` of device `n`; wait until they have left; wait until the left neighbour's have landed. -/
abbrev send (n : Dev nD) (b : Fin 2) : PR F PUnit :=
  Prog.lift (.enqueueDma (rows off h) (.remote (Dev.tc n) (slot b) (.dma (sendS b))) (.dma (recvS b)) (View.wordExact_bits rfl) ((View.wordExact_bits rfl).reshape _ _) ⟨⟨rfl, Or.inl rfl⟩, trivial⟩)
abbrev waitSend (b : Fin 2) : PR F PUnit := Prog.lift (.waitDma2 (sendS b) (slot b) (rows off h) ((View.wordExact_bits rfl).reshape _ _) (View.wordExact_bits rfl))
abbrev waitRecv (b : Fin 2) : PR F PUnit := Prog.lift (.waitDma2 (recvS b) (rows off h) (slot b) (View.wordExact_bits rfl) ((View.wordExact_bits rfl).reshape _ _))
/-- Rows of the result into the accumulator, and back; a landed slot into rows of the result. -/
abbrev getAcc : PR F PUnit := Prog.lift (.enqueueDma (rows off h) (.here accM) (.dma (locS 0)) (View.wordExact_bits rfl) (Memref.isWhole_whole _).wordExact ⟨Or.inl rfl, trivial⟩)
abbrev waitAcc : PR F PUnit := Prog.lift (.waitDma2 (locS 0) (rows off h) accM (View.wordExact_bits rfl) (Memref.isWhole_whole _).wordExact)
abbrev put : PR F PUnit := Prog.lift (.enqueueDma accM (.here (rows off h)) (.dma (locS 0)) (Memref.isWhole_whole _).wordExact (View.wordExact_bits rfl) ⟨Or.inl rfl, trivial⟩)
abbrev waitPut : PR F PUnit := Prog.lift (.waitDma2 (locS 0) accM (rows off h) (Memref.isWhole_whole _).wordExact (View.wordExact_bits rfl))
abbrev copy (b : Fin 2) : PR F PUnit := Prog.lift (.enqueueDma (slot b) (.here (rows off h)) (.dma (locS 0)) ((View.wordExact_bits rfl).reshape _ _) (View.wordExact_bits rfl) ⟨Or.inl rfl, trivial⟩)
abbrev waitCopy (b : Fin 2) : PR F PUnit := Prog.lift (.waitDma2 (locS 0) (slot b) (rows off h) ((View.wordExact_bits rfl).reshape _ _) (View.wordExact_bits rfl))

end at_offset

/-- A landed slot into the second VMEM buffer. -/
abbrev getTmp (b : Fin 2) : PR F PUnit := Prog.lift (.enqueueDma (slot b) (.here tmpM) (.dma (locS 1)) ((View.wordExact_bits rfl).reshape _ _) (Memref.isWhole_whole _).wordExact ⟨Or.inl rfl, trivial⟩)
abbrev waitTmp (b : Fin 2) : PR F PUnit := Prog.lift (.waitDma2 (locS 1) (slot b) tmpM ((View.wordExact_bits rfl).reshape _ _) (Memref.isWhole_whole _).wordExact)

/-- The whole of a VMEM buffer, as loads and stores address it. -/
abbrev allR : Rect S128x8192 := Rect.unit (s := S128x8192) ![0, 0] S128x8192.size inb_S128x8192_S128x8192_0_0

/-- Load both VMEM buffers and store their sum into the first. -/
abbrev addUp : PR F PUnit := do
  let v : Vec F S128x8192 .f32 ← Prog.lift (.load accM allR.toLoadRect (View.loadsAt_vmem h_S128x8192))
  let w : Vec F S128x8192 .f32 ← Prog.lift (.load tmpM allR.toLoadRect (View.loadsAt_vmem h_S128x8192))
  let _ : Vec F S128x8192 .f32 ← Prog.lift (.load accM allR.toLoadRect (View.loadsAt_vmem h_S128x8192))
  Prog.lift (.store accM allR (k0_pay1 v w) Finset.univ (View.stores_vmem_bits_univ h_S128x8192 rfl) (.inl rfl))

/-- The partial product into the result. -/
abbrev init : PR F PUnit := Prog.lift (.enqueueDma pM (.here oM) (.dma (locS 0)) (Memref.isWhole_whole _).wordExact (Memref.isWhole_whole _).wordExact ⟨Or.inl rfl, trivial⟩)
abbrev waitInit : PR F PUnit := Prog.lift (.waitDma2 (locS 0) pM oM (Memref.isWhole_whole _).wordExact (Memref.isWhole_whole _).wordExact)

/-- One operation of the body: which rows it touches is given by the step it belongs to, among the 31 that add (`R`) or the 31
    that copy (`G`), and which slot by the step's parity. -/
inductive Op
  | init | waitInit | waitCred | waitLast | signal | addUp
  | sendR (k : Fin 31) (b : Fin 2) | waitSendR (k : Fin 31) (b : Fin 2) | waitRecvR (k : Fin 31) (b : Fin 2)
  | getAcc (k : Fin 31) | waitAcc (k : Fin 31) | getTmp (b : Fin 2) | waitTmp (b : Fin 2)
  | put (k : Fin 31) | waitPut (k : Fin 31)
  | sendG (k : Fin 31) (b : Fin 2) | waitSendG (k : Fin 31) (b : Fin 2) | waitRecvG (k : Fin 31) (b : Fin 2)
  | copy (k : Fin 31) (b : Fin 2) | waitCopy (k : Fin 31) (b : Fin 2)
deriving DecidableEq

/-- What an operation does on device `d`. -/
def Op.prog (d : Dev nD) : Op → PR F PUnit
  | .init => Ring.init
  | .waitInit => Ring.waitInit
  | .waitCred => semWaitWord credS 1#32
  | .waitLast => semWaitWord credS 2#32
  | .signal => semSignalWord (lft d) credS 1#32
  | .addUp => Ring.addUp
  | .sendR k b => Ring.send (k0_off1 d (BitVec.ofNat 32 k.val)) (k0_off1_inb d k) (rgt d) b
  | .waitSendR k b => Ring.waitSend (k0_off1 d (BitVec.ofNat 32 k.val)) (k0_off1_inb d k) b
  | .waitRecvR k b => Ring.waitRecv (k0_off1 d (BitVec.ofNat 32 k.val)) (k0_off1_inb d k) b
  | .getAcc k => Ring.getAcc (k0_off2 d (BitVec.ofNat 32 k.val)) (k0_off2_inb d k)
  | .waitAcc k => Ring.waitAcc (k0_off2 d (BitVec.ofNat 32 k.val)) (k0_off2_inb d k)
  | .getTmp b => Ring.getTmp b
  | .waitTmp b => Ring.waitTmp b
  | .put k => Ring.put (k0_off2 d (BitVec.ofNat 32 k.val)) (k0_off2_inb d k)
  | .waitPut k => Ring.waitPut (k0_off2 d (BitVec.ofNat 32 k.val)) (k0_off2_inb d k)
  | .sendG k b => Ring.send (k0_off3 d (BitVec.ofNat 32 k.val)) (k0_off3_inb d k) (rgt d) b
  | .waitSendG k b => Ring.waitSend (k0_off3 d (BitVec.ofNat 32 k.val)) (k0_off3_inb d k) b
  | .waitRecvG k b => Ring.waitRecv (k0_off3 d (BitVec.ofNat 32 k.val)) (k0_off3_inb d k) b
  | .copy k b => Ring.copy (k0_off1 d (BitVec.ofNat 32 k.val)) (k0_off1_inb d k) b
  | .waitCopy k b => Ring.waitCopy (k0_off1 d (BitVec.ofNat 32 k.val)) (k0_off1_inb d k) b

/-- Run a list of operations on device `d`. -/
def runL (d : Dev nD) : List Op → PR F PUnit
  | [] => pure ⟨⟩
  | o :: l => o.prog d >>= fun _ => runL d l

theorem runL_append (d : Dev nD) (l l' : List Op) : (runL d (l ++ l') : PR F PUnit) = runL d l >>= fun _ => runL d l' := by
  induction l with
  | nil => exact (pure_bind _ _).symm
  | cons o l ih => simp only [List.cons_append, runL, ih, bind_assoc]

/-- `p` runs the operations `l` and then returns some value. -/
def Runs {α : Type} (d : Dev nD) (p : PR F α) (l : List Op) : Prop := ∃ r : α, p = runL d l >>= fun _ => pure r

theorem Runs.bind {α β : Type} {d : Dev nD} {p : PR F α} {f : α → PR F β} {l l' : List Op} (h : Runs d p l) (h' : ∀ r, Runs d (f r) l') :
    Runs d (p >>= f) (l ++ l') := by
  obtain ⟨r, rfl⟩ := h
  obtain ⟨r', hr'⟩ := h' r
  refine ⟨r', ?_⟩
  simp only [runL_append, bind_assoc, pure_bind, hr']

/-- Two parts between which an addition is cut, taken together. -/
theorem Runs.bind₂ {α β γ : Type} {d : Dev nD} {p : PR F α} {q : α → PR F β} {f : β → PR F γ} {l l' : List Op}
    (h : Runs d (p >>= q) l) (h' : ∀ r, Runs d (f r) l') : Runs d (p >>= fun v => q v >>= f) (l ++ l') := by
  have e := h.bind h'
  rwa [bind_assoc] at e

/-- `Runs`, the value returned meeting `P`. -/
def RunsTo {α : Type} (d : Dev nD) (p : PR F α) (l : List Op) (P : α → Prop) : Prop := ∃ r : α, P r ∧ p = runL d l >>= fun _ => pure r

theorem Runs.to {α : Type} {d : Dev nD} {p : PR F α} {l : List Op} (h : Runs d p l) : RunsTo d p l fun _ => True :=
  h.imp fun _ h => ⟨trivial, h⟩

theorem RunsTo.bind {α β : Type} {d : Dev nD} {p : PR F α} {f : α → PR F β} {l l' : List Op} {P : α → Prop} {Q : β → Prop}
    (h : RunsTo d p l P) (h' : ∀ r, P r → RunsTo d (f r) l' Q) : RunsTo d (p >>= f) (l ++ l') Q := by
  obtain ⟨r, hr, rfl⟩ := h
  obtain ⟨r', hq, hr'⟩ := h' r hr
  refine ⟨r', hq, ?_⟩
  simp only [runL_append, bind_assoc, pure_bind, hr']

theorem Runs.then {α β : Type} {d : Dev nD} {p : PR F α} {f : α → PR F β} {l l' : List Op} {Q : β → Prop}
    (h : Runs d p l) (h' : ∀ r, RunsTo d (f r) l' Q) : RunsTo d (p >>= f) (l ++ l') Q := h.to.bind fun r _ => h' r

theorem Runs.then₂ {α β γ : Type} {d : Dev nD} {p : PR F α} {q : α → PR F β} {f : β → PR F γ} {l l' : List Op} {Q : γ → Prop}
    (h : Runs d (p >>= q) l) (h' : ∀ r, RunsTo d (f r) l' Q) : RunsTo d (p >>= fun v => q v >>= f) (l ++ l') Q := by
  have e := h.then h'
  rwa [bind_assoc] at e

theorem RunsTo.pure {α : Type} {d : Dev nD} {r : α} {P : α → Prop} (h : P r) : RunsTo d (Pure.pure r : PR F α) [] P :=
  ⟨r, h, (pure_bind _ _).symm⟩

theorem RunsTo.intro {α : Type} {d : Dev nD} {p : PR F α} (l : List Op) (h : Runs d p l) : RunsTo d p l fun _ => True := h.to

theorem RunsTo.eq {d : Dev nD} {p : PR F PUnit} {l l' : List Op} (h : RunsTo d p l fun _ => True) (e : l = l') : p = runL d l' := by
  obtain ⟨⟨⟩, -, h⟩ := h
  exact e ▸ h.trans (bind_pure _)

/-! ## The parts -/

section parts
variable (d : Dev nD)

theorem part2 (v7 : BitVec 32) (v18 : BitVec 32) : Runs (F := F) d (k0_part2 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v18) [.waitSendR 0 0, .waitRecvR 0 0, .getAcc 0, .getTmp 0, .waitAcc 0, .waitTmp 0] := ⟨_, rfl⟩
theorem part3 (v2 : BitVec 32) (v5 : BitVec 32) (v7 : BitVec 32) (v18 : BitVec 32) : Runs (F := F) d (k0_part3 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v18) [.addUp, .put 0, .waitPut 0, .signal] := ⟨_, rfl⟩
theorem part4 (v7 : BitVec 32) (v77 : BitVec 32) : Runs (F := F) d (k0_part4 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v77) [.sendR 1 1, .waitSendR 1 1, .waitRecvR 1 1, .getAcc 1, .getTmp 1, .waitAcc 1] := ⟨_, rfl⟩
theorem part5 (v2 : BitVec 32) (v5 : BitVec 32) (v77 : BitVec 32) : Runs (F := F) d (k0_part5 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v77) [.waitTmp 1, .addUp, .put 1, .waitPut 1, .signal, .waitCred] := ⟨_, rfl⟩
theorem part6 (v7 : BitVec 32) (v136 : BitVec 32) : Runs (F := F) d (k0_part6 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v136) [.sendR 2 0, .waitSendR 2 0, .waitRecvR 2 0, .getAcc 2] := ⟨_, rfl⟩
theorem part7 (v2 : BitVec 32) (v5 : BitVec 32) (v136 : BitVec 32) : Runs (F := F) d (k0_part7 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v136) [.getTmp 0, .waitAcc 2, .waitTmp 0, .addUp, .put 2, .waitPut 2, .signal] := ⟨_, rfl⟩
theorem part8 (v7 : BitVec 32) (v191 : BitVec 32) (v192 : BitVec 32) (c1_i32_180 : BitVec 32) : Runs (F := F) d (k0_part8 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v191 v192 c1_i32_180) [.waitCred, .sendR 3 1, .waitSendR 3 1, .waitRecvR 3 1] := ⟨_, rfl⟩
theorem part9 (v5 : BitVec 32) (v195 : BitVec 32) : Runs (F := F) d (k0_part9 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v195) [.getAcc 3, .getTmp 1, .waitAcc 3, .waitTmp 1, .addUp, .put 3, .waitPut 3] := ⟨_, rfl⟩
theorem part10 (v2 : BitVec 32) (v7 : BitVec 32) (v246 : BitVec 32) (c0_i32_235 : BitVec 32) : Runs (F := F) d (k0_part10 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 v246 c0_i32_235) [.signal, .waitCred, .sendR 4 0, .waitSendR 4 0] := ⟨_, rfl⟩
theorem part11 (v254 : BitVec 32) : Runs (F := F) d (k0_part11 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v254) [.waitRecvR 4 0, .getAcc 4, .getTmp 0, .waitAcc 4, .waitTmp 0, .addUp] := ⟨_, rfl⟩
theorem part12 (v2 : BitVec 32) (v5 : BitVec 32) (v7 : BitVec 32) : Runs (F := F) d (k0_part12 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.put 4, .waitPut 4, .signal, .waitCred, .sendR 5 1] := ⟨_, rfl⟩
theorem part13 (v7 : BitVec 32) (v313 : BitVec 32) (v2 : BitVec 32) (v5 : BitVec 32) : Runs (F := F) d (k0_part13 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v313 >>= fun v => k0_part14 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v313 v) [.waitSendR 5 1, .waitRecvR 5 1, .getAcc 5, .getTmp 1, .waitAcc 5, .waitTmp 1, .addUp, .put 5, .waitPut 5, .signal, .waitCred] := ⟨_, rfl⟩
theorem part15 (v7 : BitVec 32) (v372 : BitVec 32) : Runs (F := F) d (k0_part15 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v372) [.sendR 6 0, .waitSendR 6 0, .waitRecvR 6 0, .getAcc 6, .getTmp 0, .waitAcc 6] := ⟨_, rfl⟩
theorem part16 (v2 : BitVec 32) (v5 : BitVec 32) (v7 : BitVec 32) (v372 : BitVec 32) : Runs (F := F) d (k0_part16 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v372) [.waitTmp 0, .addUp, .put 6, .waitPut 6, .signal, .waitCred] := ⟨_, rfl⟩
theorem part17 (v7 : BitVec 32) (v431 : BitVec 32) (v433 : BitVec 32) (c0_i32_426 : BitVec 32) : Runs (F := F) d (k0_part17 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v431 v433 c0_i32_426) [.sendR 7 1, .waitSendR 7 1, .waitRecvR 7 1, .getAcc 7, .getTmp 1] := ⟨_, rfl⟩
theorem part18 (v2 : BitVec 32) (v5 : BitVec 32) (v431 : BitVec 32) : Runs (F := F) d (k0_part18 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v431) [.waitAcc 7, .waitTmp 1, .addUp, .put 7, .waitPut 7, .signal] := ⟨_, rfl⟩
theorem part19 (v7 : BitVec 32) (v486 : BitVec 32) (v490 : BitVec 32) : Runs (F := F) d (k0_part19 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v486 v490) [.waitCred, .sendR 8 0, .waitSendR 8 0, .waitRecvR 8 0, .getAcc 8] := ⟨_, rfl⟩
theorem part20 (v2 : BitVec 32) (v5 : BitVec 32) (v490 : BitVec 32) : Runs (F := F) d (k0_part20 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v490) [.getTmp 0, .waitAcc 8, .waitTmp 0, .addUp, .put 8, .waitPut 8, .signal] := ⟨_, rfl⟩
theorem part21 (v2 : BitVec 32) (v7 : BitVec 32) (v543 : BitVec 32) (c64_i32_531 : BitVec 32) : Runs (F := F) d (k0_part21 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 v543 c64_i32_531) [.waitCred, .sendR 9 1, .waitSendR 9 1] := ⟨_, rfl⟩
theorem part22 (v549 : BitVec 32) : Runs (F := F) d (k0_part22 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v549) [.waitRecvR 9 1, .getAcc 9, .getTmp 1, .waitAcc 9, .waitTmp 1, .addUp, .put 9] := ⟨_, rfl⟩
theorem part23 (v2 : BitVec 32) (v5 : BitVec 32) (v7 : BitVec 32) : Runs (F := F) d (k0_part23 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitPut 9, .signal, .waitCred, .sendR 10 0, .waitSendR 10 0] := ⟨_, rfl⟩
theorem part24 (v7 : BitVec 32) (v608 : BitVec 32) : Runs (F := F) d (k0_part24 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v608) [.waitRecvR 10 0, .getAcc 10, .getTmp 0, .waitAcc 10, .waitTmp 0, .addUp] := ⟨_, rfl⟩
theorem part25 (v2 : BitVec 32) (v5 : BitVec 32) (v7 : BitVec 32) (v608 : BitVec 32) (c128_i32_641 : BitVec 32) : Runs (F := F) d (k0_part25 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v608 c128_i32_641) [.put 10, .waitPut 10, .signal, .waitCred, .sendR 11 1] := ⟨_, rfl⟩
theorem part26 (v7 : BitVec 32) (v667 : BitVec 32) (v2 : BitVec 32) (v5 : BitVec 32) : Runs (F := F) d (k0_part26 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v667 >>= fun v => k0_part27 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v667 v) [.waitSendR 11 1, .waitRecvR 11 1, .getAcc 11, .getTmp 1, .waitAcc 11, .waitTmp 1, .addUp, .put 11, .waitPut 11, .signal, .waitCred] := ⟨_, rfl⟩
theorem part28 (v7 : BitVec 32) (v726 : BitVec 32) : Runs (F := F) d (k0_part28 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v726) [.sendR 12 0, .waitSendR 12 0, .waitRecvR 12 0, .getAcc 12, .getTmp 0, .waitAcc 12] := ⟨_, rfl⟩
theorem part29 (v2 : BitVec 32) (v5 : BitVec 32) (v726 : BitVec 32) : Runs (F := F) d (k0_part29 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v726) [.waitTmp 0, .addUp, .put 12, .waitPut 12, .signal, .waitCred] := ⟨_, rfl⟩
theorem part30 (v7 : BitVec 32) (v785 : BitVec 32) : Runs (F := F) d (k0_part30 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v785) [.sendR 13 1, .waitSendR 13 1, .waitRecvR 13 1, .getAcc 13] := ⟨_, rfl⟩
theorem part31 (v2 : BitVec 32) (v5 : BitVec 32) (v785 : BitVec 32) : Runs (F := F) d (k0_part31 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v785) [.getTmp 1, .waitAcc 13, .waitTmp 1, .addUp, .put 13, .waitPut 13, .signal] := ⟨_, rfl⟩
theorem part32 (v7 : BitVec 32) (v840 : BitVec 32) (v841 : BitVec 32) : Runs (F := F) d (k0_part32 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v840 v841) [.waitCred, .sendR 14 0, .waitSendR 14 0, .waitRecvR 14 0] := ⟨_, rfl⟩
theorem part33 (v5 : BitVec 32) (v844 : BitVec 32) : Runs (F := F) d (k0_part33 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v844) [.getAcc 14, .getTmp 0, .waitAcc 14, .waitTmp 0, .addUp, .put 14, .waitPut 14] := ⟨_, rfl⟩
theorem part34 (v2 : BitVec 32) (v7 : BitVec 32) (v895 : BitVec 32) : Runs (F := F) d (k0_part34 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 v895) [.signal, .waitCred, .sendR 15 1, .waitSendR 15 1] := ⟨_, rfl⟩
theorem part35 (v903 : BitVec 32) : Runs (F := F) d (k0_part35 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v903) [.waitRecvR 15 1, .getAcc 15, .getTmp 1, .waitAcc 15, .waitTmp 1, .addUp] := ⟨_, rfl⟩
theorem part36 (v2 : BitVec 32) (v5 : BitVec 32) (v7 : BitVec 32) : Runs (F := F) d (k0_part36 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.put 15, .waitPut 15, .signal, .waitCred, .sendR 16 0] := ⟨_, rfl⟩
theorem part37 (v7 : BitVec 32) (v962 : BitVec 32) (v2 : BitVec 32) (v5 : BitVec 32) : Runs (F := F) d (k0_part37 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v962 >>= fun v => k0_part38 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v962 v) [.waitSendR 16 0, .waitRecvR 16 0, .getAcc 16, .getTmp 0, .waitAcc 16, .waitTmp 0, .addUp, .put 16, .waitPut 16, .signal, .waitCred] := ⟨_, rfl⟩
theorem part39 (v7 : BitVec 32) (v1021 : BitVec 32) : Runs (F := F) d (k0_part39 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1021) [.sendR 17 1, .waitSendR 17 1, .waitRecvR 17 1, .getAcc 17, .getTmp 1, .waitAcc 17] := ⟨_, rfl⟩
theorem part40 (v2 : BitVec 32) (v5 : BitVec 32) (v7 : BitVec 32) (v1021 : BitVec 32) : Runs (F := F) d (k0_part40 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v1021) [.waitTmp 1, .addUp, .put 17, .waitPut 17, .signal, .waitCred] := ⟨_, rfl⟩
theorem part41 (v7 : BitVec 32) (v1080 : BitVec 32) (v1082 : BitVec 32) : Runs (F := F) d (k0_part41 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1080 v1082) [.sendR 18 0, .waitSendR 18 0, .waitRecvR 18 0, .getAcc 18, .getTmp 0] := ⟨_, rfl⟩
theorem part42 (v2 : BitVec 32) (v5 : BitVec 32) (v1080 : BitVec 32) : Runs (F := F) d (k0_part42 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v1080) [.waitAcc 18, .waitTmp 0, .addUp, .put 18, .waitPut 18, .signal] := ⟨_, rfl⟩
theorem part43 (v7 : BitVec 32) (v1135 : BitVec 32) (v1138 : BitVec 32) (c32_i32_1126 : BitVec 32) : Runs (F := F) d (k0_part43 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1135 v1138 c32_i32_1126) [.waitCred, .sendR 19 1, .waitSendR 19 1, .waitRecvR 19 1] := ⟨_, rfl⟩
theorem part44 (v2 : BitVec 32) (v5 : BitVec 32) (v1139 : BitVec 32) : Runs (F := F) d (k0_part44 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v1139) [.getAcc 19, .getTmp 1, .waitAcc 19, .waitTmp 1, .addUp, .put 19, .waitPut 19, .signal] := ⟨_, rfl⟩
theorem part45 (v2 : BitVec 32) (v7 : BitVec 32) (v1192 : BitVec 32) : Runs (F := F) d (k0_part45 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 v1192) [.waitCred, .sendR 20 0, .waitSendR 20 0] := ⟨_, rfl⟩
theorem part46 (v1198 : BitVec 32) : Runs (F := F) d (k0_part46 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v1198) [.waitRecvR 20 0, .getAcc 20, .getTmp 0, .waitAcc 20, .waitTmp 0, .addUp, .put 20] := ⟨_, rfl⟩
theorem part47 (v2 : BitVec 32) (v5 : BitVec 32) (v7 : BitVec 32) : Runs (F := F) d (k0_part47 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitPut 20, .signal, .waitCred, .sendR 21 1, .waitSendR 21 1] := ⟨_, rfl⟩
theorem part48 (v7 : BitVec 32) (v1257 : BitVec 32) : Runs (F := F) d (k0_part48 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1257) [.waitRecvR 21 1, .getAcc 21, .getTmp 1, .waitAcc 21, .waitTmp 1, .addUp] := ⟨_, rfl⟩
theorem part49 (v2 : BitVec 32) (v5 : BitVec 32) (v7 : BitVec 32) (v1257 : BitVec 32) : Runs (F := F) d (k0_part49 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v1257) [.put 21, .waitPut 21, .signal, .waitCred, .sendR 22 0] := ⟨_, rfl⟩
theorem part50 (v7 : BitVec 32) (v1316 : BitVec 32) : Runs (F := F) d (k0_part50 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1316) [.waitSendR 22 0, .waitRecvR 22 0, .getAcc 22, .getTmp 0, .waitAcc 22, .waitTmp 0] := ⟨_, rfl⟩
theorem part51 (v2 : BitVec 32) (v5 : BitVec 32) (v7 : BitVec 32) (v1316 : BitVec 32) : Runs (F := F) d (k0_part51 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v1316) [.addUp, .put 22, .waitPut 22, .signal, .waitCred] := ⟨_, rfl⟩
theorem part52 (v7 : BitVec 32) (v1375 : BitVec 32) : Runs (F := F) d (k0_part52 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1375) [.sendR 23 1, .waitSendR 23 1, .waitRecvR 23 1, .getAcc 23, .getTmp 1, .waitAcc 23] := ⟨_, rfl⟩
theorem part53 (v2 : BitVec 32) (v5 : BitVec 32) (v1375 : BitVec 32) : Runs (F := F) d (k0_part53 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v1375) [.waitTmp 1, .addUp, .put 23, .waitPut 23, .signal, .waitCred] := ⟨_, rfl⟩
theorem part54 (v7 : BitVec 32) (v1430 : BitVec 32) (v1434 : BitVec 32) (c128_i32_1424 : BitVec 32) : Runs (F := F) d (k0_part54 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1430 v1434 c128_i32_1424) [.sendR 24 0, .waitSendR 24 0, .waitRecvR 24 0, .getAcc 24] := ⟨_, rfl⟩
theorem part55 (v2 : BitVec 32) (v5 : BitVec 32) (v1434 : BitVec 32) : Runs (F := F) d (k0_part55 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v1434) [.getTmp 0, .waitAcc 24, .waitTmp 0, .addUp, .put 24, .waitPut 24, .signal] := ⟨_, rfl⟩
theorem part56 (v2 : BitVec 32) (v7 : BitVec 32) (v1489 : BitVec 32) (c25_i32_1477 : BitVec 32) : Runs (F := F) d (k0_part56 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 v1489 c25_i32_1477) [.waitCred, .sendR 25 1, .waitSendR 25 1, .waitRecvR 25 1] := ⟨_, rfl⟩
theorem part57 (v1493 : BitVec 32) (c128_i32_1507 : BitVec 32) : Runs (F := F) d (k0_part57 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v1493 c128_i32_1507) [.getAcc 25, .getTmp 1, .waitAcc 25, .waitTmp 1, .addUp, .put 25, .waitPut 25] := ⟨_, rfl⟩
theorem part58 (v2 : BitVec 32) (v5 : BitVec 32) (v7 : BitVec 32) (c1_i32_1532 : BitVec 32) : Runs (F := F) d (k0_part58 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 c1_i32_1532) [.signal, .waitCred, .sendR 26 0, .waitSendR 26 0] := ⟨_, rfl⟩
theorem part59 (v1552 : BitVec 32) (v1568 : BitVec 32) (c0_i32_1562 : BitVec 32) : Runs (F := F) d (k0_part59 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v1552 v1568 c0_i32_1562) [.waitRecvR 26 0, .getAcc 26, .getTmp 0, .waitAcc 26, .waitTmp 0, .addUp] := ⟨_, rfl⟩
theorem part60 (v2 : BitVec 32) (v5 : BitVec 32) (v7 : BitVec 32) : Runs (F := F) d (k0_part60 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.put 26, .waitPut 26, .signal, .waitCred, .sendR 27 1] := ⟨_, rfl⟩
theorem part61 (v7 : BitVec 32) (v1611 : BitVec 32) (v2 : BitVec 32) (v5 : BitVec 32) : Runs (F := F) d (k0_part61 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1611 >>= fun v => k0_part62 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v1611 v) [.waitSendR 27 1, .waitRecvR 27 1, .getAcc 27, .getTmp 1, .waitAcc 27, .waitTmp 1, .addUp, .put 27, .waitPut 27, .signal, .waitCred] := ⟨_, rfl⟩
theorem part63 (v7 : BitVec 32) (v1670 : BitVec 32) : Runs (F := F) d (k0_part63 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1670) [.sendR 28 0, .waitSendR 28 0, .waitRecvR 28 0, .getAcc 28, .getTmp 0, .waitAcc 28] := ⟨_, rfl⟩
theorem part64 (v2 : BitVec 32) (v5 : BitVec 32) (v1670 : BitVec 32) : Runs (F := F) d (k0_part64 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v1670) [.waitTmp 0, .addUp, .put 28, .waitPut 28, .signal, .waitCred] := ⟨_, rfl⟩
theorem part65 (v7 : BitVec 32) (v1729 : BitVec 32) (c1_i32_1723 : BitVec 32) : Runs (F := F) d (k0_part65 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1729 c1_i32_1723) [.sendR 29 1, .waitSendR 29 1, .waitRecvR 29 1, .getAcc 29, .getTmp 1] := ⟨_, rfl⟩
theorem part66 (v2 : BitVec 32) (v5 : BitVec 32) (v1729 : BitVec 32) : Runs (F := F) d (k0_part66 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v1729) [.waitAcc 29, .waitTmp 1, .addUp, .put 29, .waitPut 29, .signal] := ⟨_, rfl⟩
theorem part67 (v7 : BitVec 32) (v1784 : BitVec 32) (v1787 : BitVec 32) : Runs (F := F) d (k0_part67 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1784 v1787) [.waitCred, .sendR 30 0, .waitSendR 30 0, .waitRecvR 30 0] := ⟨_, rfl⟩
theorem part68 (v5 : BitVec 32) (v1788 : BitVec 32) : Runs (F := F) d (k0_part68 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v1788) [.getAcc 30, .getTmp 0, .waitAcc 30, .waitTmp 0, .addUp, .put 30, .waitPut 30, .signal] := ⟨_, rfl⟩
theorem part69 (v2 : BitVec 32) (v7 : BitVec 32) (c1_i32_1829 : BitVec 32) : Runs (F := F) d (k0_part69 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 c1_i32_1829) [.waitCred, .sendG 0 1, .waitSendG 0 1] := ⟨_, rfl⟩
theorem part70 (v2 : BitVec 32) (v5 : BitVec 32) (v7 : BitVec 32) (v1847 : BitVec 32) : Runs (F := F) d (k0_part70 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v1847) [.waitRecvG 0 1, .copy 0 1, .waitCopy 0 1, .signal, .waitCred] := ⟨_, rfl⟩
theorem part71 (v7 : BitVec 32) (v1889 : BitVec 32) (v1891 : BitVec 32) (c0_i32_1890 : BitVec 32) : Runs (F := F) d (k0_part71 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1889 v1891 c0_i32_1890) [.sendG 1 0, .waitSendG 1 0, .waitRecvG 1 0, .copy 1 0] := ⟨_, rfl⟩
theorem part72 (v2 : BitVec 32) (v5 : BitVec 32) (v7 : BitVec 32) : Runs (F := F) d (k0_part72 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitCopy 1 0, .signal, .waitCred, .sendG 2 1] := ⟨_, rfl⟩
theorem part73 (v2 : BitVec 32) (v5 : BitVec 32) (v7 : BitVec 32) (v1931 : BitVec 32) : Runs (F := F) d (k0_part73 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v1931) [.waitSendG 2 1, .waitRecvG 2 1, .copy 2 1, .waitCopy 2 1, .signal] := ⟨_, rfl⟩
theorem part74 (v7 : BitVec 32) (v1970 : BitVec 32) (v1972 : BitVec 32) (c32_i32_1976 : BitVec 32) : Runs (F := F) d (k0_part74 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v1970 v1972 c32_i32_1976) [.waitCred, .sendG 3 0, .waitSendG 3 0, .waitRecvG 3 0] := ⟨_, rfl⟩
theorem part75 (v2 : BitVec 32) (v5 : BitVec 32) (v7 : BitVec 32) : Runs (F := F) d (k0_part75 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.copy 3 0, .waitCopy 3 0, .signal, .waitCred, .sendG 4 1] := ⟨_, rfl⟩
theorem part76 (v5 : BitVec 32) (v7 : BitVec 32) (v2015 : BitVec 32) : Runs (F := F) d (k0_part76 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v7 v2015) [.waitSendG 4 1, .waitRecvG 4 1, .copy 4 1, .waitCopy 4 1, .signal] := ⟨_, rfl⟩
theorem part77 (v2 : BitVec 32) (v7 : BitVec 32) (c1_i32_2064 : BitVec 32) : Runs (F := F) d (k0_part77 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 c1_i32_2064) [.waitCred, .sendG 5 0, .waitSendG 5 0] := ⟨_, rfl⟩
theorem part78 (v2 : BitVec 32) (v5 : BitVec 32) (v7 : BitVec 32) (v2057 : BitVec 32) : Runs (F := F) d (k0_part78 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2057) [.waitRecvG 5 0, .copy 5 0, .waitCopy 5 0, .signal, .waitCred] := ⟨_, rfl⟩
theorem part79 (v7 : BitVec 32) (v2099 : BitVec 32) (v2101 : BitVec 32) (c0_i32_2125 : BitVec 32) : Runs (F := F) d (k0_part79 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2099 v2101 c0_i32_2125) [.sendG 6 1, .waitSendG 6 1, .waitRecvG 6 1, .copy 6 1] := ⟨_, rfl⟩
theorem part80 (v2 : BitVec 32) (v5 : BitVec 32) (v7 : BitVec 32) : Runs (F := F) d (k0_part80 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitCopy 6 1, .signal, .waitCred, .sendG 7 0] := ⟨_, rfl⟩
theorem part81 (v2 : BitVec 32) (v5 : BitVec 32) (v7 : BitVec 32) (v2141 : BitVec 32) : Runs (F := F) d (k0_part81 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2141) [.waitSendG 7 0, .waitRecvG 7 0, .copy 7 0, .waitCopy 7 0, .signal] := ⟨_, rfl⟩
theorem part82 (v7 : BitVec 32) (v2180 : BitVec 32) (v2182 : BitVec 32) (c32_i32_2211 : BitVec 32) : Runs (F := F) d (k0_part82 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2180 v2182 c32_i32_2211) [.waitCred, .sendG 8 1, .waitSendG 8 1, .waitRecvG 8 1] := ⟨_, rfl⟩
theorem part83 (v2 : BitVec 32) (v5 : BitVec 32) (v7 : BitVec 32) : Runs (F := F) d (k0_part83 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.copy 8 1, .waitCopy 8 1, .signal, .waitCred, .sendG 9 0] := ⟨_, rfl⟩
theorem part84 (v5 : BitVec 32) (v7 : BitVec 32) (v2225 : BitVec 32) : Runs (F := F) d (k0_part84 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v7 v2225) [.waitSendG 9 0, .waitRecvG 9 0, .copy 9 0, .waitCopy 9 0, .signal] := ⟨_, rfl⟩
theorem part85 (v2 : BitVec 32) (v7 : BitVec 32) (c1_i32_2299 : BitVec 32) : Runs (F := F) d (k0_part85 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 c1_i32_2299) [.waitCred, .sendG 10 1, .waitSendG 10 1] := ⟨_, rfl⟩
theorem part86 (v2 : BitVec 32) (v5 : BitVec 32) (v7 : BitVec 32) (v2267 : BitVec 32) : Runs (F := F) d (k0_part86 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2267) [.waitRecvG 10 1, .copy 10 1, .waitCopy 10 1, .signal, .waitCred] := ⟨_, rfl⟩
theorem part87 (v7 : BitVec 32) (v2309 : BitVec 32) (v2311 : BitVec 32) (c0_i32_2360 : BitVec 32) : Runs (F := F) d (k0_part87 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2309 v2311 c0_i32_2360) [.sendG 11 0, .waitSendG 11 0, .waitRecvG 11 0, .copy 11 0] := ⟨_, rfl⟩
theorem part88 (v2 : BitVec 32) (v5 : BitVec 32) (v7 : BitVec 32) : Runs (F := F) d (k0_part88 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitCopy 11 0, .signal, .waitCred, .sendG 12 1] := ⟨_, rfl⟩
theorem part89 (v2 : BitVec 32) (v5 : BitVec 32) (v7 : BitVec 32) (v2351 : BitVec 32) : Runs (F := F) d (k0_part89 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2351) [.waitSendG 12 1, .waitRecvG 12 1, .copy 12 1, .waitCopy 12 1, .signal] := ⟨_, rfl⟩
theorem part90 (v7 : BitVec 32) (v2390 : BitVec 32) (v2392 : BitVec 32) (c32_i32_2446 : BitVec 32) : Runs (F := F) d (k0_part90 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2390 v2392 c32_i32_2446) [.waitCred, .sendG 13 0, .waitSendG 13 0, .waitRecvG 13 0] := ⟨_, rfl⟩
theorem part91 (v2 : BitVec 32) (v5 : BitVec 32) (v7 : BitVec 32) : Runs (F := F) d (k0_part91 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.copy 13 0, .waitCopy 13 0, .signal, .waitCred, .sendG 14 1] := ⟨_, rfl⟩
theorem part92 (v5 : BitVec 32) (v7 : BitVec 32) (v2435 : BitVec 32) : Runs (F := F) d (k0_part92 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v7 v2435) [.waitSendG 14 1, .waitRecvG 14 1, .copy 14 1, .waitCopy 14 1, .signal] := ⟨_, rfl⟩
theorem part93 (v2 : BitVec 32) (v7 : BitVec 32) (c1_i32_2534 : BitVec 32) : Runs (F := F) d (k0_part93 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 c1_i32_2534) [.waitCred, .sendG 15 0, .waitSendG 15 0] := ⟨_, rfl⟩
theorem part94 (v2 : BitVec 32) (v5 : BitVec 32) (v7 : BitVec 32) (v2477 : BitVec 32) : Runs (F := F) d (k0_part94 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2477) [.waitRecvG 15 0, .copy 15 0, .waitCopy 15 0, .signal, .waitCred] := ⟨_, rfl⟩
theorem part95 (v7 : BitVec 32) (v2519 : BitVec 32) (v2521 : BitVec 32) (c0_i32_2595 : BitVec 32) : Runs (F := F) d (k0_part95 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2519 v2521 c0_i32_2595) [.sendG 16 1, .waitSendG 16 1, .waitRecvG 16 1, .copy 16 1] := ⟨_, rfl⟩
theorem part96 (v2 : BitVec 32) (v5 : BitVec 32) (v7 : BitVec 32) : Runs (F := F) d (k0_part96 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitCopy 16 1, .signal, .waitCred, .sendG 17 0] := ⟨_, rfl⟩
theorem part97 (v2 : BitVec 32) (v5 : BitVec 32) (v7 : BitVec 32) (v2561 : BitVec 32) : Runs (F := F) d (k0_part97 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2561) [.waitSendG 17 0, .waitRecvG 17 0, .copy 17 0, .waitCopy 17 0, .signal] := ⟨_, rfl⟩
theorem part98 (v7 : BitVec 32) (v2600 : BitVec 32) (v2602 : BitVec 32) (c32_i32_2681 : BitVec 32) : Runs (F := F) d (k0_part98 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2600 v2602 c32_i32_2681) [.waitCred, .sendG 18 1, .waitSendG 18 1, .waitRecvG 18 1] := ⟨_, rfl⟩
theorem part99 (v2 : BitVec 32) (v5 : BitVec 32) (v7 : BitVec 32) : Runs (F := F) d (k0_part99 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.copy 18 1, .waitCopy 18 1, .signal, .waitCred, .sendG 19 0] := ⟨_, rfl⟩
theorem part100 (v5 : BitVec 32) (v7 : BitVec 32) (v2645 : BitVec 32) : Runs (F := F) d (k0_part100 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v7 v2645) [.waitSendG 19 0, .waitRecvG 19 0, .copy 19 0, .waitCopy 19 0, .signal] := ⟨_, rfl⟩
theorem part101 (v2 : BitVec 32) (v7 : BitVec 32) (c1_i32_2769 : BitVec 32) : Runs (F := F) d (k0_part101 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 c1_i32_2769) [.waitCred, .sendG 20 1, .waitSendG 20 1] := ⟨_, rfl⟩
theorem part102 (v2 : BitVec 32) (v5 : BitVec 32) (v7 : BitVec 32) (v2687 : BitVec 32) : Runs (F := F) d (k0_part102 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2687) [.waitRecvG 20 1, .copy 20 1, .waitCopy 20 1, .signal, .waitCred] := ⟨_, rfl⟩
theorem part103 (v7 : BitVec 32) (v2729 : BitVec 32) (v2731 : BitVec 32) (c0_i32_2830 : BitVec 32) : Runs (F := F) d (k0_part103 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2729 v2731 c0_i32_2830) [.sendG 21 0, .waitSendG 21 0, .waitRecvG 21 0, .copy 21 0] := ⟨_, rfl⟩
theorem part104 (v2 : BitVec 32) (v5 : BitVec 32) (v7 : BitVec 32) : Runs (F := F) d (k0_part104 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitCopy 21 0, .signal, .waitCred, .sendG 22 1] := ⟨_, rfl⟩
theorem part105 (v2 : BitVec 32) (v5 : BitVec 32) (v7 : BitVec 32) (v2771 : BitVec 32) : Runs (F := F) d (k0_part105 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2771) [.waitSendG 22 1, .waitRecvG 22 1, .copy 22 1, .waitCopy 22 1, .signal] := ⟨_, rfl⟩
theorem part106 (v7 : BitVec 32) (v2810 : BitVec 32) (v2812 : BitVec 32) (c32_i32_2916 : BitVec 32) : Runs (F := F) d (k0_part106 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2810 v2812 c32_i32_2916) [.waitCred, .sendG 23 0, .waitSendG 23 0, .waitRecvG 23 0] := ⟨_, rfl⟩
theorem part107 (v2 : BitVec 32) (v5 : BitVec 32) (v7 : BitVec 32) : Runs (F := F) d (k0_part107 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.copy 23 0, .waitCopy 23 0, .signal, .waitCred, .sendG 24 1] := ⟨_, rfl⟩
theorem part108 (v5 : BitVec 32) (v7 : BitVec 32) (v2855 : BitVec 32) : Runs (F := F) d (k0_part108 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v7 v2855) [.waitSendG 24 1, .waitRecvG 24 1, .copy 24 1, .waitCopy 24 1, .signal] := ⟨_, rfl⟩
theorem part109 (v2 : BitVec 32) (v7 : BitVec 32) (c1_i32_3004 : BitVec 32) : Runs (F := F) d (k0_part109 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 c1_i32_3004) [.waitCred, .sendG 25 0, .waitSendG 25 0] := ⟨_, rfl⟩
theorem part110 (v2 : BitVec 32) (v5 : BitVec 32) (v7 : BitVec 32) (v2897 : BitVec 32) : Runs (F := F) d (k0_part110 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2897) [.waitRecvG 25 0, .copy 25 0, .waitCopy 25 0, .signal, .waitCred] := ⟨_, rfl⟩
theorem part111 (v7 : BitVec 32) (v2939 : BitVec 32) (v2941 : BitVec 32) (c0_i32_3065 : BitVec 32) : Runs (F := F) d (k0_part111 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v2939 v2941 c0_i32_3065) [.sendG 26 1, .waitSendG 26 1, .waitRecvG 26 1, .copy 26 1] := ⟨_, rfl⟩
theorem part112 (v2 : BitVec 32) (v5 : BitVec 32) (v7 : BitVec 32) : Runs (F := F) d (k0_part112 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.waitCopy 26 1, .signal, .waitCred, .sendG 27 0] := ⟨_, rfl⟩
theorem part113 (v2 : BitVec 32) (v5 : BitVec 32) (v7 : BitVec 32) (v2981 : BitVec 32) : Runs (F := F) d (k0_part113 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7 v2981) [.waitSendG 27 0, .waitRecvG 27 0, .copy 27 0, .waitCopy 27 0, .signal] := ⟨_, rfl⟩
theorem part114 (v7 : BitVec 32) (v3020 : BitVec 32) (v3022 : BitVec 32) (c32_i32_3151 : BitVec 32) : Runs (F := F) d (k0_part114 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v7 v3020 v3022 c32_i32_3151) [.waitCred, .sendG 28 1, .waitSendG 28 1, .waitRecvG 28 1] := ⟨_, rfl⟩
theorem part115 (v2 : BitVec 32) (v5 : BitVec 32) (v7 : BitVec 32) : Runs (F := F) d (k0_part115 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v5 v7) [.copy 28 1, .waitCopy 28 1, .signal, .waitCred, .sendG 29 0] := ⟨_, rfl⟩
theorem part116 (v5 : BitVec 32) (v7 : BitVec 32) (v3065 : BitVec 32) : Runs (F := F) d (k0_part116 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v5 v7 v3065) [.waitSendG 29 0, .waitRecvG 29 0, .copy 29 0, .waitCopy 29 0, .signal] := ⟨_, rfl⟩
theorem part117 (v2 : BitVec 32) (v7 : BitVec 32) (c1_i32_3239 : BitVec 32) : Runs (F := F) d (k0_part117 (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 d v2 v7 c1_i32_3239) [.waitCred, .sendG 30 1, .waitSendG 30 1] := ⟨_, rfl⟩
/-- The first part asks which device it runs on; what it does afterwards. -/
theorem part1 : ∃ f : Dev nD → Σ' (_ : BitVec 32) (_ : BitVec 32) (_ : BitVec 32), BitVec 32, k0_part1 (F := F) (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 = (Prog.lift .deviceId : PR F (Dev nD)) >>= fun d =>
    runL d [.init, .waitInit, .sendR 0 0] >>= fun _ => pure ⟨d, f d⟩ := ⟨_, rfl⟩

end parts

/-! ## The whole body -/

/-- The step `s` of the 62: wait for a credit from the third step on, then the step's own operations, then the credit to the left. -/
def stepR (k : Fin 31) (b : Fin 2) : List Op :=
  [.sendR k b, .waitSendR k b, .waitRecvR k b, .getAcc k, .getTmp b, .waitAcc k, .waitTmp b, .addUp, .put k, .waitPut k, .signal]
def stepG (k : Fin 31) (b : Fin 2) : List Op :=
  [.sendG k b, .waitSendG k b, .waitRecvG k b, .copy k b, .waitCopy k b, .signal]
/-- The parity of a step. -/
def par (s : ℕ) : Fin 2 := ⟨s % 2, Nat.mod_lt _ (by decide)⟩
def step (s : ℕ) : List Op :=
  (if 2 ≤ s then [Op.waitCred] else []) ++ (if s < 31 then stepR ⟨s % 31, Nat.mod_lt _ (by decide)⟩ (par s) else stepG ⟨(s - 31) % 31, Nat.mod_lt _ (by decide)⟩ (par s))
/-- The body's operations. -/
def body : List Op := [.init, .waitInit] ++ (List.range 62).flatMap step ++ [.waitLast]

set_option maxHeartbeats 1000000 in
/-- The body asks which device it runs on and then runs the list. -/
theorem body_eq : cc0__allreduce_body (F := F) (Memref.whole main_arg0) (Memref.isWhole_whole _) (Memref.whole main_v1_0) (Memref.isWhole_whole _) (Memref.whole main_v1_1) (Memref.isWhole_whole _) (Memref.whole cc0_scratch0) (Memref.isWhole_whole _) (Memref.whole cc0_scratch1) (Memref.isWhole_whole _) cc0_scratch2 cc0_scratch3 cc0_scratch4 cc0_scratch5 = (Prog.lift .deviceId : PR F (Dev nD)) >>= fun d => runL d body := by
  obtain ⟨f, h⟩ := part1 (F := F)
  rw [cc0__allreduce_body_eq_skeleton]
  unfold cc0__allreduce_body_skel
  rw [k0_part118_eq_skeleton, k0_part119_eq_skeleton]
  unfold k0_part118_skel
  rw [h, bind_assoc, bind_assoc]
  refine congrArg (Bind.bind _) (funext fun d => ?_)
  apply RunsTo.eq
  apply RunsTo.bind (P := fun r => r = ⟨d, f d⟩) ⟨_, rfl, rfl⟩
  · rintro _ rfl
    apply RunsTo.bind (P := fun r => r.1 = d)
    · dsimp only
      apply Runs.then (part2 d _ _); intro _
      apply Runs.then (part3 d _ _ _ _); intro _
      apply Runs.then (part4 d _ _); intro _
      apply Runs.then (part5 d _ _ _); intro _
      apply Runs.then (part6 d _ _); intro _
      apply Runs.then (part7 d _ _ _); intro _
      apply Runs.then (part8 d _ _ _ _); intro _
      apply Runs.then (part9 d _ _); intro _
      apply Runs.then (part10 d _ _ _ _); intro _
      apply Runs.then (part11 d _); intro _
      apply Runs.then (part12 d _ _ _); intro _
      apply Runs.then₂ (part13 d _ _ _ _); intro _
      apply Runs.then (part15 d _ _); intro _
      apply Runs.then (part16 d _ _ _ _); intro _
      apply Runs.then (part17 d _ _ _ _); intro _
      apply Runs.then (part18 d _ _ _); intro _
      apply Runs.then (part19 d _ _ _); intro _
      apply Runs.then (part20 d _ _ _); intro _
      apply Runs.then (part21 d _ _ _ _); intro _
      apply Runs.then (part22 d _); intro _
      apply Runs.then (part23 d _ _ _); intro _
      apply Runs.then (part24 d _ _); intro _
      apply Runs.then (part25 d _ _ _ _ _); intro _
      apply Runs.then₂ (part26 d _ _ _ _); intro _
      apply Runs.then (part28 d _ _); intro _
      apply Runs.then (part29 d _ _ _); intro _
      apply Runs.then (part30 d _ _); intro _
      apply Runs.then (part31 d _ _ _); intro _
      apply Runs.then (part32 d _ _ _); intro _
      apply Runs.then (part33 d _ _); intro _
      apply Runs.then (part34 d _ _ _); intro _
      apply Runs.then (part35 d _); intro _
      apply Runs.then (part36 d _ _ _); intro _
      apply Runs.then₂ (part37 d _ _ _ _); intro _
      apply Runs.then (part39 d _ _); intro _
      apply Runs.then (part40 d _ _ _ _); intro _
      apply Runs.then (part41 d _ _ _); intro _
      apply Runs.then (part42 d _ _ _); intro _
      apply Runs.then (part43 d _ _ _ _); intro _
      apply Runs.then (part44 d _ _ _); intro _
      apply Runs.then (part45 d _ _ _); intro _
      apply Runs.then (part46 d _); intro _
      apply Runs.then (part47 d _ _ _); intro _
      apply Runs.then (part48 d _ _); intro _
      apply Runs.then (part49 d _ _ _ _); intro _
      apply Runs.then (part50 d _ _); intro _
      apply Runs.then (part51 d _ _ _ _); intro _
      apply Runs.then (part52 d _ _); intro _
      apply Runs.then (part53 d _ _ _); intro _
      apply Runs.then (part54 d _ _ _ _); intro _
      apply Runs.then (part55 d _ _ _); intro _
      apply Runs.then (part56 d _ _ _ _); intro _
      apply Runs.then (part57 d _ _); intro _
      apply Runs.then (part58 d _ _ _ _); intro _
      apply Runs.then (part59 d _ _ _); intro _
      apply Runs.then (part60 d _ _ _); intro _
      exact RunsTo.pure rfl
    · rintro ⟨d, v2, v5, v7, v1611⟩ rfl
      dsimp only
      unfold k0_part119_skel
      apply RunsTo.bind (P := fun _ => True)
      · skip
        apply Runs.then₂ (part61 d _ _ _ _); intro _
        apply Runs.then (part63 d _ _); intro _
        apply Runs.then (part64 d _ _ _); intro _
        apply Runs.then (part65 d _ _ _); intro _
        apply Runs.then (part66 d _ _ _); intro _
        apply Runs.then (part67 d _ _ _); intro _
        apply Runs.then (part68 d _ _); intro _
        apply Runs.then (part69 d _ _ _); intro _
        apply Runs.then (part70 d _ _ _ _); intro _
        apply Runs.then (part71 d _ _ _ _); intro _
        apply Runs.then (part72 d _ _ _); intro _
        apply Runs.then (part73 d _ _ _ _); intro _
        apply Runs.then (part74 d _ _ _ _); intro _
        apply Runs.then (part75 d _ _ _); intro _
        apply Runs.then (part76 d _ _ _); intro _
        apply Runs.then (part77 d _ _ _); intro _
        apply Runs.then (part78 d _ _ _ _); intro _
        apply Runs.then (part79 d _ _ _ _); intro _
        apply Runs.then (part80 d _ _ _); intro _
        apply Runs.then (part81 d _ _ _ _); intro _
        apply Runs.then (part82 d _ _ _ _); intro _
        apply Runs.then (part83 d _ _ _); intro _
        apply Runs.then (part84 d _ _ _); intro _
        apply Runs.then (part85 d _ _ _); intro _
        apply Runs.then (part86 d _ _ _ _); intro _
        apply Runs.then (part87 d _ _ _ _); intro _
        apply Runs.then (part88 d _ _ _); intro _
        apply Runs.then (part89 d _ _ _ _); intro _
        apply Runs.then (part90 d _ _ _ _); intro _
        apply Runs.then (part91 d _ _ _); intro _
        apply Runs.then (part92 d _ _ _); intro _
        apply Runs.then (part93 d _ _ _); intro _
        apply Runs.then (part94 d _ _ _ _); intro _
        apply Runs.then (part95 d _ _ _ _); intro _
        apply Runs.then (part96 d _ _ _); intro _
        apply Runs.then (part97 d _ _ _ _); intro _
        apply Runs.then (part98 d _ _ _ _); intro _
        apply Runs.then (part99 d _ _ _); intro _
        apply Runs.then (part100 d _ _ _); intro _
        apply Runs.then (part101 d _ _ _); intro _
        apply Runs.then (part102 d _ _ _ _); intro _
        apply Runs.then (part103 d _ _ _ _); intro _
        apply Runs.then (part104 d _ _ _); intro _
        apply Runs.then (part105 d _ _ _ _); intro _
        apply Runs.then (part106 d _ _ _ _); intro _
        apply Runs.then (part107 d _ _ _); intro _
        apply Runs.then (part108 d _ _ _); intro _
        apply Runs.then (part109 d _ _ _); intro _
        apply Runs.then (part110 d _ _ _ _); intro _
        apply Runs.then (part111 d _ _ _ _); intro _
        apply Runs.then (part112 d _ _ _); intro _
        apply Runs.then (part113 d _ _ _ _); intro _
        apply Runs.then (part114 d _ _ _ _); intro _
        apply Runs.then (part115 d _ _ _); intro _
        apply Runs.then (part116 d _ _ _); intro _
        apply Runs.then (part117 d _ _ _); intro _
        exact RunsTo.pure trivial
      · exact fun _ _ => RunsTo.intro [.waitRecvG 30 1, .copy 30 1, .waitCopy 30 1, .signal, .waitLast] ⟨_, rfl⟩
  · rfl

end Cert.KernelIdeal.Ring
end
-- ==== Proof.Protocol.lean ====
module

public import proofs.«01_k».proof.Proof.Steps
public import proofs.«01_k».proof.Proof.Gen.KernelIdeal.Launch
public import Idealize.ShloMosaic.Lib.Pipeline.Launch
public import Idealize.ShloMosaic.Lib.Release
public import Idealize.ShloMosaic.Lib.Transfers
public import Idealize.ShloMosaic.Lib.Ring
public import Idealize.ShloMosaic.Lib.Memref
public import Idealize.ShloMosaic.Lib.Tactic

@[expose] public section

/-! # The protocol of the ring

Device `c` sends to `nxt c = c + 1` and receives from `prv c = c - 1`, modulo 32. At step `s < 62` it sends the rows
`ch c s = c - s` of its result into slot `s % 2` of `nxt c`, and takes from its own slot `s % 2` what `prv c` sent at the same step,
for the rows `ch c (s + 1)`: the first 31 steps add it to those rows, the others put it in their place. `sent s c` is what device `c`
sends at step `s`, `cur s c j` what the rows `j` of its result hold before step `s`.

A landing slot is used every second step. What the next write waits for is a credit, a signal from the reader; credits carry no
number and may arrive in any order, so the slot itself lies in an invariant (`Release`), each credit carries the facts of all the
steps up to its own (`credPay`), and after `n` credits some credit of a step at least `n - 1` has arrived. -/

noncomputable section

namespace Cert.KernelIdeal.Ring

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

/-! ## The resource algebra -/

/-- The pipeline's rounds; the ring's rounds, duties named by numbers; the slots; the local copies' tokens. -/
abbrev UP : Type := URounds (GSem nD τ sig) Unit
abbrev UR : Type := URounds (GSem nD τ sig) ℕ
abbrev US : Type := USlots (Dev nD × Fin 2)
abbrev UU : Type := UP × (UR × (US × Counters))

local notation "𝕄" => MT nD τ sig ℕ (Elt F) ℕ UU ℕ

abbrev uE : Emb UU (MT nD τ sig ℕ (Elt F) ℕ UU ℕ) := (uEmb (nD := nD) (sig := sig) (Ix := ℕ) (Val := Elt F) (Name := ℕ) (U := UU) (Lvl := ℕ)).toEmb

def EP : Emb UP (MT nD τ sig ℕ (Elt F) ℕ UU ℕ) := (Emb.inl : Emb UP UU).trans uE
def ER : Emb UR (MT nD τ sig ℕ (Elt F) ℕ UU ℕ) := ((Emb.inl : Emb UR (UR × (US × Counters))).trans (Emb.inr : Emb _ UU)).trans uE
def ES : Emb US (MT nD τ sig ℕ (Elt F) ℕ UU ℕ) :=
  (((Emb.inl : Emb US (US × Counters)).trans (Emb.inr : Emb _ (UR × (US × Counters)))).trans (Emb.inr : Emb _ UU)).trans uE

instance EP_landsIn : (EP : Emb UP 𝕄).LandsIn (upEmb : UEmb _ 𝕄) := by unfold EP; infer_instance
instance ER_landsIn : (ER : Emb UR 𝕄).LandsIn (upEmb : UEmb _ 𝕄) := by unfold ER; infer_instance
instance ES_landsIn : (ES : Emb US 𝕄).LandsIn (upEmb : UEmb _ 𝕄) := by unfold ES; infer_instance

/-! ## The ring -/

def nxt (c : Dev nD) : Dev nD := ⟨(c.val + 1) % 32, Nat.mod_lt _ (by decide)⟩
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
theorem rgt_eq (c : Dev nD) : rgt c = nxt c := Fin.ext (k0_dev1_eq c)
theorem lft_eq (c : Dev nD) : lft c = prv c := Fin.ext (k0_dev2_eq c)

/-- The ring as a permutation of the devices. -/
def ring : Dev nD ≃ Dev nD := ⟨nxt, prv, prv_nxt, nxt_prv⟩

/-- Which rows device `c` sends at step `s`: rows `128 j` to `128 j + 127`. -/
def ch (c : Dev nD) (s : ℕ) : Fin 32 := ⟨(c.val + 64 - s) % 32, Nat.mod_lt _ (by decide)⟩

theorem inb_chk : ∀ j : Fin 32, ∀ a, (![128 * j.val, 0] : Fin 2 → Nat) a + S128x8192.size a ≤ S4096x8192.size a := by decide

/-- Those rows of the result. -/
abbrev chk (j : Fin 32) : Memref sig .tc .hbm S128x8192 .f32 := rows ![128 * j.val, 0] (inb_chk j)

/-! ## The contents -/

/-- The contents of 128 rows. -/
abbrev X (F : FTy → Type) : Type := S128x8192.Idx → Elt F .f32

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- A device's partial product as the contents of its result, and its rows `j`. -/
def part (c : Dev nD) : (main_v1_0 : Ref sig .tc).ty.Contents (Elt F) := m ((c : Thread nD τ).loc main_arg0)
def ini (c : Dev nD) (j : Fin 32) : X F := (chk j).view.read (Elt F) (part m c)

/-- What device `c` sends at step `s`. -/
def sent : ℕ → Dev nD → X F
  | 0, c => ini m c (ch c 0)
  | s + 1, c => if s < 31 then k0_pay1 (ini m c (ch c (s + 1))) (sent s (prv c)) else sent s (prv c)

/-- What rows `j` of device `c`'s result hold before step `s`. -/
def cur : ℕ → Dev nD → Fin 32 → X F
  | 0, c, j => ini m c j
  | s + 1, c, j => if j = ch c (s + 1) then sent m (s + 1) c else cur s c j

/-! ## The cells -/

abbrev recvCell (c : Dev nD) (b : Fin 2) : GSem nD τ sig := ((c : Thread nD τ), .dma (recvS b))
abbrev sendCell (c : Dev nD) (b : Fin 2) : GSem nD τ sig := ((c : Thread nD τ), .dma (sendS b))
abbrev credCell (c : Dev nD) : GSem nD τ sig := ((c : Thread nD τ), .reg credS)

/-- The cells several devices or rounds use, and with them the two of the local copies. -/
abbrev osem : Fin 5 → SemLoc sig := fun | 0 => .dma (recvS 0) | 1 => .dma (recvS 1) | 2 => .dma (sendS 0) | 3 => .dma (sendS 1) | 4 => .reg credS
abbrev asem : Fin 7 → SemLoc sig
  | 0 => .dma (recvS 0) | 1 => .dma (recvS 1) | 2 => .dma (sendS 0) | 3 => .dma (sendS 1) | 4 => .reg credS | 5 => .dma (locS 0) | 6 => .dma (locS 1)

/-- Where a slot's two cells stand in that list. -/
def rIx (b : Fin 2) : Fin 5 := if b = 0 then 0 else 1
def sIx (b : Fin 2) : Fin 5 := if b = 0 then 2 else 3
theorem osem_rIx (b : Fin 2) : osem (rIx b) = .dma (recvS b) := by revert b; decide
theorem osem_sIx (b : Fin 2) : osem (sIx b) = .dma (sendS b) := by revert b; decide

/-- What a transfer of 128 rows credits. -/
abbrev N : ℕ := (slot 0).view.dmaCredit
theorem N_pos : 0 < N := View.dmaCredit_pos _ (by decide)

/-- Rows of a buffer of device `c`, held whole and reading `x`; a landing slot at anything. -/
abbrev has (c : Dev nD) {sp : Space} {s : Shape} (M : Memref sig .tc sp s .f32) (x : s.Idx → Elt F .f32) : sProp 𝕄 := owns (c : Thread nD τ) M fullShare x
def anySlot (k : Dev nD × Fin 2) : sProp 𝕄 := Release.slot ((slot k.2).view.loc (k.1 : Thread nD τ)) (slot k.2).view.set

/-- What device `d` lets be known once it is through step `k`: its slot has been read that often, and so many transfers into it have been waited for. -/
def fact (d : Dev nD) (k : ℕ) : sProp 𝕄 := iprop(released ES (d, par k) (k / 2 + 1) ∗ reached ER (recvCell d (par k)) (k / 2 + 1))

instance fact_persistent (d : Dev nD) (k : ℕ) : BI.Persistent (fact (F := F) d k) := by unfold fact; infer_instance
instance fact_storable (d : Dev nD) (k : ℕ) : BI.Storable (upEmb : UEmb _ 𝕄) (fact (F := F) d k) := by unfold fact; infer_instance
instance anySlot_storable (k : Dev nD × Fin 2) : BI.Storable (upEmb : UEmb _ 𝕄) (anySlot (F := F) k) := by unfold anySlot; infer_instance

/-- What credit `k` tells device `c`: all that of its right neighbour up to step `k`. -/
def credPay (c : Dev nD) (k : ℕ) : sProp 𝕄 := bigSep (Finset.range (k + 1)) fun i => fact (F := F) (nxt c) i
/-- What the `r`-th landing in slot `b` hands its device, and what the `r`-th sending from there hands the sender back. -/
def recvPay (c : Dev nD) (b : Fin 2) (r : ℕ) : sProp 𝕄 := has c (slot b) (sent m (2 * r + b.val) (prv c))
def sendPay (c : Dev nD) (b : Fin 2) (r : ℕ) : sProp 𝕄 := has c (chk (ch c (2 * r + b.val))) (sent m (2 * r + b.val) c)

instance credPay_persistent (c : Dev nD) (k : ℕ) : BI.Persistent (credPay (F := F) c k) := by unfold credPay; infer_instance
instance credPay_storable (c : Dev nD) (k : ℕ) : BI.Storable (upEmb : UEmb _ 𝕄) (credPay (F := F) c k) := by unfold credPay; infer_instance
instance recvPay_storable (c : Dev nD) (b : Fin 2) (r : ℕ) : BI.Storable (upEmb : UEmb _ 𝕄) (recvPay m c b r) := by unfold recvPay; infer_instance
instance sendPay_storable (c : Dev nD) (b : Fin 2) (r : ℕ) : BI.Storable (upEmb : UEmb _ 𝕄) (sendPay m c b r) := by unfold sendPay; infer_instance

/-- The schedule: a slot's two cells have 31 rounds of one duty, the credits' cell one round of 62 duties of one unit. -/
def ringRd : Schedule (GSem nD τ sig) ℕ (MT nD τ sig ℕ (Elt F) ℕ UU ℕ) where
  duties g r :=
    if g.1.2 = .tc then
      if g.2 = .reg credS then (if r = 0 then Finset.range 62 else ∅)
      else if g.2 = .dma (recvS 0) ∨ g.2 = .dma (recvS 1) ∨ g.2 = .dma (sendS 0) ∨ g.2 = .dma (sendS 1) then (if r < 31 then {0} else ∅)
      else ∅
    else ∅
  unitless _ := False
  amount g _ _ := if g.2 = .reg credS then 1 else N
  payload g r d :=
    if g.2 = .reg credS then credPay g.1.1 d
    else if g.2 = .dma (recvS 0) then recvPay m g.1.1 0 r
    else if g.2 = .dma (recvS 1) then recvPay m g.1.1 1 r
    else if g.2 = .dma (sendS 0) then sendPay m g.1.1 0 r
    else if g.2 = .dma (sendS 1) then sendPay m g.1.1 1 r
    else iprop(emp)
  amount_pos g _ _ _ := by split <;> first | exact Nat.one_pos | exact N_pos

instance ringRd_payload_storable (g : GSem nD τ sig) (r : ℕ) (d : ℕ) : BI.Storable (upEmb : UEmb _ 𝕄) ((ringRd (F := F) m).payload g r d) := by
  dsimp only [ringRd]; (repeat' split) <;> infer_instance

section Sched

variable (c : Dev nD) (b : Fin 2) (r d : ℕ)

theorem duties_recv (h : r < 31) : (ringRd (F := F) m).duties (recvCell c b) r = {0} := by
  dsimp only [ringRd]
  rw [if_pos rfl, if_neg (fun h => by cases h), if_pos (by revert b; decide), if_pos h]
theorem duties_send (h : r < 31) : (ringRd (F := F) m).duties (sendCell c b) r = {0} := by
  dsimp only [ringRd]
  rw [if_pos rfl, if_neg (fun h => by cases h), if_pos (by revert b; decide), if_pos h]
theorem duties_cred : (ringRd (F := F) m).duties (credCell c) 0 = Finset.range 62 := by
  dsimp only [ringRd]; rw [if_pos rfl, if_pos rfl, if_pos rfl]
theorem recv_later : ∀ r, 31 ≤ r → (ringRd (F := F) m).duties (recvCell c b) r = ∅ := fun r h => by
  dsimp only [ringRd]
  rw [if_pos rfl, if_neg (fun h => by cases h), if_pos (by revert b; decide), if_neg (by omega)]
theorem send_later : ∀ r, 31 ≤ r → (ringRd (F := F) m).duties (sendCell c b) r = ∅ := fun r h => by
  dsimp only [ringRd]
  rw [if_pos rfl, if_neg (fun h => by cases h), if_pos (by revert b; decide), if_neg (by omega)]
theorem cred_later : ∀ r, 1 ≤ r → (ringRd (F := F) m).duties (credCell c) r = ∅ := fun r h => by
  dsimp only [ringRd]; rw [if_pos rfl, if_pos rfl, if_neg (by omega)]

theorem amount_recv : (ringRd (F := F) m).amount (recvCell c b) r d = N := by
  dsimp only [ringRd]; exact if_neg fun h => by cases h
theorem amount_send : (ringRd (F := F) m).amount (sendCell c b) r d = N := by
  dsimp only [ringRd]; exact if_neg fun h => by cases h
theorem amount_cred : (ringRd (F := F) m).amount (credCell c) r d = 1 := by
  dsimp only [ringRd]; exact if_pos rfl

theorem expect_recv (h : r < 31) : (ringRd (F := F) m).expect (recvCell c b) r = N := by
  unfold Schedule.expect Schedule.amountOf; rw [duties_recv m c b r h, Finset.sum_singleton, amount_recv]
theorem expect_send (h : r < 31) : (ringRd (F := F) m).expect (sendCell c b) r = N := by
  unfold Schedule.expect Schedule.amountOf; rw [duties_send m c b r h, Finset.sum_singleton, amount_send]
theorem expect_cred : (ringRd (F := F) m).expect (credCell c) 0 = 62 := by
  unfold Schedule.expect Schedule.amountOf; rw [duties_cred, Finset.sum_congr rfl fun d _ => amount_cred m c 0 d]; rfl

theorem payload_recv : (ringRd (F := F) m).payload (recvCell c b) r d = recvPay m c b r := by
  dsimp only [ringRd]
  rw [if_neg (fun h => by cases h)]
  obtain rfl | rfl : b = 0 ∨ b = 1 := by revert b; decide
  · exact if_pos rfl
  · rw [if_neg (by decide)]; exact if_pos rfl
theorem payload_send : (ringRd (F := F) m).payload (sendCell c b) r d = sendPay m c b r := by
  dsimp only [ringRd]
  rw [if_neg (fun h => by cases h), if_neg (by revert b; decide), if_neg (by revert b; decide)]
  obtain rfl | rfl : b = 0 ∨ b = 1 := by revert b; decide
  · exact if_pos rfl
  · rw [if_neg (by decide)]; exact if_pos rfl
theorem payload_cred : (ringRd (F := F) m).payload (credCell c) r d = credPay c d := by
  dsimp only [ringRd]; exact if_pos rfl

theorem rest_recv (h : r < 31) : bigSep ((ringRd (F := F) m).duties (recvCell c b) r \ ∅) (fun u => (ringRd (F := F) m).payload (recvCell c b) r u) = recvPay m c b r := by
  rw [Finset.sdiff_empty, duties_recv m c b r h, bigSep_singleton, payload_recv]
theorem rest_send (h : r < 31) : bigSep ((ringRd (F := F) m).duties (sendCell c b) r \ ∅) (fun u => (ringRd (F := F) m).payload (sendCell c b) r u) = sendPay m c b r := by
  rw [Finset.sdiff_empty, duties_send m c b r h, bigSep_singleton, payload_send]

end Sched

/-! ## What each device owes, and the levels -/

/-- From step `s` on device `c` owes its right neighbour the landings of its transfers, and its left neighbour the credits. -/
def owedR (c : Dev nD) (s : ℕ) : CellTallies nD τ sig ℕ := ∑ k ∈ Finset.Ico s 62, tallyAt (recvCell (nxt c) (par k)) k N
def owedC (c : Dev nD) (s : ℕ) : CellTallies nD τ sig ℕ := ∑ k ∈ Finset.Ico s 62, tallyAt (credCell (prv c)) k 1

theorem owedR_step (c : Dev nD) {s : ℕ} (h : s < 62) : owedR c s = owedR c (s + 1) + tallyAt (recvCell (nxt c) (par s)) s N := by
  unfold owedR; rw [Idealize.ShloMosaic.Ring.sum_Ico_succ h, add_comm]
theorem owedC_step (c : Dev nD) {s : ℕ} (h : s < 62) : owedC c s = owedC c (s + 1) + tallyAt (credCell (prv c)) s 1 := by
  unfold owedC; rw [Idealize.ShloMosaic.Ring.sum_Ico_succ h, add_comm]
theorem owedR_end (c : Dev nD) : owedR c 62 = 0 := by unfold owedR; rw [Finset.Ico_self]; rfl
theorem owedC_end (c : Dev nD) : owedC c 62 = 0 := by unfold owedC; rw [Finset.Ico_self]; rfl

/-- The levels: a landing of step `k` below the credit of step `k`, and both below the next step's; the rest at the bottom. -/
@[irreducible] def L (g : GSem nD τ sig) : Finset ℕ := if g.1.2 = .tc then Finset.range 62 else ∅
def lv (g : GSem nD τ sig) (k : ℕ) : ℕ :=
  if g.2 = .reg credS then 3 * k + 4 else if g.2 = .dma (recvS 0) ∨ g.2 = .dma (recvS 1) then 3 * k + 3 else 0

theorem L_of_ne (g : GSem nD τ sig) (h : g.1.2 ≠ .tc) : L g = ∅ := by unfold L; exact if_neg h
theorem mem_L (c : Dev nD) (sm : SemLoc sig) {ι : ℕ} (h : ι < 62) : ι ∈ L ((c : Thread nD τ), sm) := by unfold L; rw [if_pos rfl]; exact Finset.mem_range.mpr h
theorem lv_recv (c : Dev nD) (b : Fin 2) (k : ℕ) : lv (recvCell c b) k = 3 * k + 3 := by
  have h : (SemLoc.dma (recvS b) : SemLoc sig) = .dma (recvS 0) ∨ (SemLoc.dma (recvS b) : SemLoc sig) = .dma (recvS 1) := by revert b; decide
  unfold lv; rw [if_neg (fun h => by cases h), if_pos h]
theorem lv_cred (c : Dev nD) (k : ℕ) : lv (credCell c) k = 3 * k + 4 := if_pos rfl

theorem owed_pos {c : Dev nD} {s s' : ℕ} {g : GSem nD τ sig} {i : ℕ} (h : 0 < (owedR c s + owedC c s') g i) :
    i ∈ L g ∧ (s ≤ i ∧ lv g i = 3 * i + 3 ∨ s' ≤ i ∧ lv g i = 3 * i + 4) := by
  rcases Pipeline.add_pos_cases h with h | h
  · obtain ⟨k, hk, h⟩ := Pipeline.sum_pos_exists h
    obtain ⟨rfl, rfl⟩ := Pipeline.tallyAt_pos h
    rw [Finset.mem_Ico] at hk
    exact ⟨mem_L _ _ hk.2, .inl ⟨hk.1, lv_recv _ _ _⟩⟩
  · obtain ⟨k, hk, h⟩ := Pipeline.sum_pos_exists h
    obtain ⟨rfl, rfl⟩ := Pipeline.tallyAt_pos h
    rw [Finset.mem_Ico] at hk
    exact ⟨mem_L _ _ hk.2, .inr ⟨hk.1, lv_cred _ _⟩⟩

/-- That these are the levels. -/
@[irreducible] def lvs : sProp 𝕄 := levAts L lv
instance lvs_persistent : BI.Persistent (lvs (F := F)) := by unfold lvs; infer_instance

/-- A wait may be made where the level is below those of all the steps still owed. -/
theorem mayWait (c : Dev nD) (sm : SemLoc sig) {ι s s' : ℕ} (hι : ι < 62) (h : lv ((c : Thread nD τ), sm) ι < 3 * s + 3) (h' : lv ((c : Thread nD τ), sm) ι < 3 * s' + 4) :
    (lvs : sProp 𝕄) ⊢ MayWait (c : Thread nD τ) sm ι (owedR c s + owedC c s') :=
  by
  unfold lvs
  refine Pipeline.mayWait_of_levAts (mem_L _ _ hι) fun g i hg => ?_
  obtain ⟨hL, ⟨h1, h2⟩ | ⟨h1, h2⟩⟩ := owed_pos hg
  · exact ⟨hL, by omega⟩
  · exact ⟨hL, by omega⟩

/-! ## The state before a step -/

abbrev kcell (ck : Dev nD × Fin 5) : GSem nD τ sig := ((ck.1 : Thread nD τ), osem ck.2)

/-- What every device may consult: the cells' invariants, the slots', that round 0 of every cell is reached, and the levels. -/
def records (K : Dev nD × Fin 5 → ℕ) (KS : Dev nD × Fin 2 → ℕ) : sProp 𝕄 :=
  iprop((bigSep Finset.univ fun ck : Dev nD × Fin 5 => cellInv ER (ringRd m) (K ck) (kcell ck))
    ∗ (bigSep Finset.univ fun k : Dev nD × Fin 2 => slotInv ES (KS k) k (anySlot k))
    ∗ (bigSep Finset.univ fun ck : Dev nD × Fin 5 => reached ER (kcell ck) 0)
    ∗ lvs)

instance records_persistent (K : Dev nD × Fin 5 → ℕ) (KS : Dev nD × Fin 2 → ℕ) : BI.Persistent (records m K KS) := by unfold records; infer_instance

/-- A position at the start of a round. -/
def pos (g : GSem nD τ sig) (r : ℕ) : sProp 𝕄 := iprop(atPos ER g r ∅ 0 ∗ reached ER g r)

/-- What the right neighbour's slot is written by at step `k`: at first the slot itself, later the token of that write. -/
def wr (c : Dev nD) (k : ℕ) : sProp 𝕄 := if k < 2 then anySlot (nxt c, par k) else writeTok ES (nxt c, par k) (k / 2)

/-- What step `k` pays with. -/
def pays (c : Dev nD) (k : ℕ) : sProp 𝕄 :=
  iprop(wr c k ∗ dutyTok ER (recvCell (nxt c) (par k)) (k / 2) 0 ∗ dutyTok ER (sendCell c (par k)) (k / 2) 0 ∗ dutyTok ER (credCell (prv c)) 0 k
    ∗ cred (tallyAt (recvCell c (par k)) k N))

/-- The credits' cell after `n` of them have been consumed. -/
def credSt (c : Dev nD) (n : ℕ) : sProp 𝕄 :=
  iprop(∃ T : Finset ℕ, ⌜n ≤ T.card ∧ T ⊆ Finset.range 62⌝ ∗ atPos ER (credCell c) 0 T n ∗ bigSep T fun k => credPay c k)

/-- What moves around the ring, before step `s`: the positions, what the reader has let go, the facts to tell, and what is still to pay and to wait with. -/
def flow (c : Dev nD) (s : ℕ) : sProp 𝕄 :=
  iprop((pos (recvCell c (par s)) (s / 2) ∗ pos (recvCell c (par (s + 1))) ((s + 1) / 2))
    ∗ (pos (sendCell c (par s)) (s / 2) ∗ pos (sendCell c (par (s + 1))) ((s + 1) / 2))
    ∗ (readerAt ES (c, par s) (s / 2) ∗ readerAt ES (c, par (s + 1)) ((s + 1) / 2))
    ∗ credSt c (s - 2)
    ∗ (bigSep (Finset.Ico s 62) fun k => pays c k)
    ∗ (bigSep (Finset.Ico (s - 2) 62) fun k => cred (tallyAt (credCell c) k 1))
    ∗ bigSep (Finset.range s) fun k => fact c k)

/-- What device `c` holds before step `s`. -/
def St (c : Dev nD) (s : ℕ) : sProp 𝕄 :=
  iprop((bigSep Finset.univ fun j : Fin 32 => has c (chk j) (cur m s c j))
    ∗ (∃ a, has c accM a) ∗ (∃ a, has c tmpM a)
    ∗ semVal ((c : Thread nD τ), .dma (locS 0)) 0 ∗ semVal ((c : Thread nD τ), .dma (locS 1)) 0
    ∗ (∃ W, owes (c : Thread nD τ) (owedR c s + owedC c s) W)
    ∗ flow c s)

end Cert.KernelIdeal.Ring

end
-- ==== Proof.Rules.lean ====
module

public import proofs.«01_k».proof.Proof.Protocol

@[expose] public section

/-! # What each operation of the ring does with the protocol's holdings

One rule for each: a local copy's start and its wait, the sum in VMEM, the transfer to the right neighbour, the waits for its
leaving and for the landing, the wait for a credit and the sending of one. -/

noncomputable section

namespace Cert.KernelIdeal.Ring

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

/-- One of many, and a family with one member set apart, in the proof mode's spelling. -/
theorem one_of {M : Type} [URA M] {I : Type} [DecidableEq I] {s : Finset I} {i : I} (h : i ∈ s) {Φ : I → sProp M} : (bigSep s Φ : sProp M) ⊢ Φ i := bigSep_elim h
theorem apart {M : Type} [URA M] {I : Type} [DecidableEq I] {s : Finset I} {i : I} (h : i ∈ s) {Φ : I → sProp M} :
    (bigSep s Φ : sProp M) = iprop(Φ i ∗ bigSep (s.erase i) Φ) := bigSep_erase h
theorem joined {M : Type} [URA M] {I : Type} [DecidableEq I] {s : Finset I} {i : I} (h : i ∉ s) {Φ : I → sProp M} :
    iprop(Φ i ∗ bigSep s Φ) ⊢ (bigSep (insert i s) Φ : sProp M) := Entails.of_eq (bigSep_insert h).symm
theorem rejoined {M : Type} [URA M] {I : Type} [DecidableEq I] {s t : Finset I} (h : t ⊆ s) {Φ : I → sProp M} :
    iprop(bigSep t Φ ∗ bigSep (s \ t) Φ) ⊢ (bigSep s Φ : sProp M) := Entails.of_eq (bigSep_sdiff_split h).symm

/-- No loops: no variants. -/
abbrev 𝒱₀ : Variants := Variants.none

/-- What device `c` must hold to run `p` to `Q`. -/
abbrev WP {α : Type} (c : Dev nD) (p : PR F α) (Q : α → sProp 𝕄) : sProp 𝕄 := wp frame (wpE (defs₀ (F := F)) 𝒱₀ (c : Thread nD τ) none) Set.univ p Q

/-- The tokens of the local copies. -/
abbrev EC : UEmb Counters 𝕄 := countersEmb

/-- What is owed, with some record of the waits made. -/
def owing (c : Dev nD) (O : CellTallies nD τ sig ℕ) : sProp 𝕄 := iprop(∃ W, owes (c : Thread nD τ) O W)

variable (c : Dev nD) {k : PUnit.{1} → PR F PUnit.{1}} {Q : PUnit.{1} → sProp (MT nD τ sig ℕ (Elt F) ℕ UU ℕ)}

/-! ## Local copies -/

theorem lv_loc (b : Fin 2) : lv ((c : Thread nD τ), SemLoc.dma (locS b)) 0 = 0 := by
  have h : ¬ ((SemLoc.dma (locS b) : SemLoc sig) = .dma (recvS 0) ∨ (SemLoc.dma (locS b) : SemLoc sig) = .dma (recvS 1)) := by revert b; decide
  unfold lv; rw [if_neg (fun h => by cases h), if_neg h]

/-- A copy on the way: when it has landed, both ends hold what the source held. -/
def onWay {sp sp' : Space} {s : Shape} (src : Memref sig .tc sp s .f32) (dst : Memref sig .tc sp' s .f32) (b : Fin 2) (x : s.Idx → Elt F .f32) : sProp 𝕄 :=
  Transfers.Flight EC (c : Thread nD τ) (.dma (locS b)) 0 dst.view.dmaCredit iprop(has c dst x ∗ has c src x)

theorem has_of {sp : Space} {s : Shape} (M : Memref sig .tc sp s .f32) {f : M.view.ty.Contents (Elt F)} {x : s.Idx → Elt F .f32} (h : M.view.read (Elt F) f = x) :
    (M.view.loc (c : Thread nD τ) ↦[M.view.set]{fullShare} f : sProp 𝕄) ⊢ has c M x := by
  subst h; exact owns_intro (c : Thread nD τ) M fullShare f

theorem has_landed {sp sp' : Space} {s : Shape} (src : Memref sig .tc sp s .f32) (dst : Memref sig .tc sp' s .f32) {fs : src.view.ty.Contents (Elt F)}
    {x : s.Idx → Elt F .f32} (h : src.view.read (Elt F) fs = x) (fd : dst.view.ty.Contents (Elt F)) :
    (dst.view.loc (c : Thread nD τ) ↦[dst.view.set]{fullShare} (dst.view.write (Elt F) fd (src.view.read (Elt F) fs) Finset.univ) : sProp 𝕄) ⊢ has c dst x :=
  has_of c dst ((View.read_write_univ fd _).trans h)

/-- The same across two devices. -/
theorem has_landed' {sp sp' : Space} {s : Shape} (d : Dev nD) (src : Memref sig .tc sp s .f32) (dst : Memref sig .tc sp' s .f32) {fs : src.view.ty.Contents (Elt F)}
    {x : s.Idx → Elt F .f32} (h : src.view.read (Elt F) fs = x) (fd : dst.view.ty.Contents (Elt F)) :
    (dst.view.loc (d : Thread nD τ) ↦[dst.view.set]{fullShare} (dst.view.write (Elt F) fd (src.view.read (Elt F) fs) Finset.univ) : sProp 𝕄) ⊢ has d dst x :=
  has_landed d src dst h fd

theorem start_copy {sp sp' : Space} {s : Shape} (src : Memref sig .tc sp s .f32) (dst : Memref sig .tc sp' s .f32) (b : Fin 2)
    {hsrc : src.view.WordExact} {hdst : dst.view.WordExact} {hsem : DmaTarget.Typed (nD := nD) (τ := τ) (p := .tc) sp (.dma (locS b)) (.here dst)}
    (hs : 0 < s.numel) (x : s.Idx → Elt F .f32) :
    iprop(has c src x ∗ (∃ y, has c dst y) ∗ semVal ((c : Thread nD τ), .dma (locS b)) 0)
      ⊢ iprop((onWay c src dst b x -∗ WP c (k ⟨⟩) Q)
          -∗ WP c ((Prog.lift (.enqueueDma src (.here dst) (.dma (locS b)) hsrc hdst hsem) : PR F PUnit) >>= k) Q) := by
  simp only [Prog.lift, Prog.bind_op, Prog.bind_ret]
  unfold has owns
  iintro ⟨⟨%fs, %hx, Hs⟩, ⟨%y, %fd, %hy, Hd⟩, Hv⟩ Hk
  iapply (Transfers.wp_dmaLocal EC 𝒱₀ (c : Thread nD τ) none 0 dst.view.dmaCredit rfl (View.dmaCredit_pos _ hs) (Finset.Subset.refl _)) $$ [Hs Hd Hv]
  · isplitl [Hs]; · iexact Hs
    isplitl [Hd] <;> iassumption
  iintro Hf
  iapply Hk
  unfold onWay
  iapply (Transfers.Flight_mono EC (c : Thread nD τ) ?_) $$ Hf
  exact BIClass.sep_mono (has_landed c src dst hx _) (has_of c src hx)

theorem wait_copy {sp sp' : Space} {s : Shape} (src : Memref sig .tc sp s .f32) (dst : Memref sig .tc sp' s .f32) (b : Fin 2)
    {hsrc : src.view.WordExact} {hdst : dst.view.WordExact} (x : s.Idx → Elt F .f32) (s₁ s₂ : ℕ) :
    iprop(onWay c src dst b x ∗ owing c (owedR c s₁ + owedC c s₂) ∗ lvs)
      ⊢ iprop((iprop(has c dst x ∗ has c src x ∗ semVal ((c : Thread nD τ), .dma (locS b)) 0 ∗ owing c (owedR c s₁ + owedC c s₂)) -∗ WP c (k ⟨⟩) Q)
          -∗ WP c ((Prog.lift (.waitDma2 (locS b) src dst hsrc hdst) : PR F PUnit) >>= k) Q) := by
  simp only [Prog.lift, Prog.bind_op, Prog.bind_ret]
  unfold onWay owing
  iintro ⟨Hf, ⟨%W, HO⟩, #Hlev⟩ Hk
  iapply (Transfers.wp_waitLocalO EC 𝒱₀ (c : Thread nD τ) none 0 rfl) $$ [Hf HO]
  · isplitl [Hf]; · iexact Hf
    isplitl [HO]; · iexact HO
    iapply (mayWait c (.dma (locS b)) (ι := 0) (by decide) ?_ ?_) $$ Hlev
    · rw [lv_loc]; omega
    · rw [lv_loc]; omega
  iintro ⟨⟨Hd, Hs⟩, Hv, HO⟩
  iapply Hk
  isplitl [Hd]; · iexact Hd
  isplitl [Hs]; · iexact Hs
  isplitl [Hv]; · iexact Hv
  iexists _; iexact HO

/-! ## The sum -/

theorem hz : (![0, 0] : Fin 2 → Nat) = fun _ => 0 := funext fun a => by fin_cases a <;> rfl

theorem add_up (x y : X F) :
    iprop(has c accM x ∗ has c tmpM y)
      ⊢ iprop((iprop(has c accM (k0_pay1 x y) ∗ has c tmpM y) -∗ WP c (k ⟨⟩) Q) -∗ WP c ((addUp : PR F PUnit) >>= k) Q) := by
  unfold addUp has
  simp only [owns_whole, Prog.lift, Prog.bind_op, Prog.bind_ret]
  iintro ⟨Ha, Ht⟩ Hk
  iapply (wp_load 𝒱₀ (c : Thread nD τ) none Set.univ (m := accM) (Finset.subset_univ _)) $$ Ha; iintro Ha
  iapply (wp_load 𝒱₀ (c : Thread nD τ) none Set.univ (m := tmpM) (Finset.subset_univ _)) $$ Ht; iintro Ht
  iapply (wp_load 𝒱₀ (c : Thread nD τ) none Set.univ (m := accM) (Finset.subset_univ _)) $$ Ha; iintro Ha
  iapply (wp_store 𝒱₀ (c : Thread nD τ) none Set.univ (m := accM) (r := allR) (Mk := Finset.univ) (Finset.subset_univ _)) $$ Ha; iintro Ha
  rw [show (accM.view.readAt (Elt F) allR.toLoadRect x : X F) = x from Memref.readAt_unit_zero (Elt F) cc0_scratch0 hz _ x,
    show (tmpM.view.readAt (Elt F) allR.toLoadRect y : X F) = y from Memref.readAt_unit_zero (Elt F) cc0_scratch1 hz _ y]
  iapply Hk
  isplitl [Ha]
  · iapply (Entails.of_eq (congrArg (fun f => (((c : Thread nD τ).loc cc0_scratch0 ↦{fullShare} f) : sProp 𝕄))
      (Memref.write_access_unit_zero_univ (Elt F) cc0_scratch0 hz inb_S128x8192_S128x8192_0_0 x (k0_pay1 x y)))) $$ Ha
  iexact Ht

/-! ## The ring's cells -/

variable (m : (ℓ : Loc nD τ sig) → Buf (Elt F) ℓ) (K : Dev nD × Fin 5 → ℕ) (KS : Dev nD × Fin 2 → ℕ)

/-- The invariants of single cells, taken out of the records. -/
theorem inv_recv (d : Dev nD) (b : Fin 2) : records m K KS ⊢ cellInv ER (ringRd m) (K (d, rIx b)) (recvCell d b) := by
  unfold records
  refine BIBase.Entails.trans ?_ (Entails.of_eq (congrArg (fun s => (cellInv ER (ringRd m) (K (d, rIx b)) ((d : Thread nD τ), s) : sProp 𝕄)) (osem_rIx b)))
  iintro ⟨H, -⟩
  iapply (one_of (Finset.mem_univ (d, rIx b))) $$ H
theorem inv_send (d : Dev nD) (b : Fin 2) : records m K KS ⊢ cellInv ER (ringRd m) (K (d, sIx b)) (sendCell d b) := by
  unfold records
  refine BIBase.Entails.trans ?_ (Entails.of_eq (congrArg (fun s => (cellInv ER (ringRd m) (K (d, sIx b)) ((d : Thread nD τ), s) : sProp 𝕄)) (osem_sIx b)))
  iintro ⟨H, -⟩
  iapply (one_of (Finset.mem_univ (d, sIx b))) $$ H
theorem inv_cred (d : Dev nD) : records m K KS ⊢ cellInv ER (ringRd m) (K (d, 4)) (credCell d) := by
  unfold records
  iintro ⟨H, -⟩
  iapply (one_of (Finset.mem_univ (d, (4 : Fin 5)))) $$ H
theorem inv_slot (d : Dev nD) (b : Fin 2) : records m K KS ⊢ slotInv ES (KS (d, b)) (d, b) (anySlot (F := F) (d, b)) := by
  unfold records
  iintro ⟨-, H, -⟩
  iapply (one_of (Finset.mem_univ (d, b))) $$ H
theorem start_recv (d : Dev nD) (b : Fin 2) : records m K KS ⊢ reached ER (recvCell d b) 0 := by
  unfold records
  refine BIBase.Entails.trans ?_ (Entails.of_eq (congrArg (fun s => (reached ER ((d : Thread nD τ), s) 0 : sProp 𝕄)) (osem_rIx b)))
  iintro ⟨-, -, H, -⟩
  iapply (one_of (Finset.mem_univ (d, rIx b))) $$ H
theorem start_cred (d : Dev nD) : records m K KS ⊢ reached ER (credCell d) 0 := by
  unfold records
  iintro ⟨-, -, H, -⟩
  iapply (one_of (Finset.mem_univ (d, (4 : Fin 5)))) $$ H
theorem the_levels : records m K KS ⊢ lvs := by
  unfold records
  iintro ⟨-, -, -, H⟩; iexact H

/-! ## Steps and rounds -/

theorem par_val (s : ℕ) : (par s).val = s % 2 := rfl
theorem par_two (s : ℕ) : par (s + 2) = par s := Fin.ext (by rw [par_val, par_val]; omega)
theorem half_two (s : ℕ) : (s + 2) / 2 = s / 2 + 1 := by omega
theorem step_no (s : ℕ) : 2 * (s / 2) + (par s).val = s := by rw [par_val]; omega

/-- Nobody holds a slot twice. -/
theorem slot_false (kk : Dev nD × Fin 2) : iprop(anySlot (F := F) kk ∗ anySlot kk) ⊢ (False : sProp (MT nD τ sig ℕ (Elt F) ℕ UU ℕ)) :=
  Release.slot_slot_false (View.set_nonempty (by decide))

/-! ## The transfer and its two waits -/

section transfer
variable (off : Fin 2 → Nat) (h : ∀ a, off a + S128x8192.size a ≤ S4096x8192.size a)

omit [FloatOps F] in
theorem amount_slot (b b' : Fin 2) : (slot b).view.amount (.dma (recvS b')) = N := rfl

/-- Step `s`'s transfer, its slot of the right neighbour in hand. -/
theorem send_step {s : ℕ} (hs : s < 62) (x : X F) (hx : x = sent m s c) (hch : off = ![128 * (ch c s).val, 0]) (n : Dev nD) (hn : n = nxt c) :
    iprop(records m K KS ∗ has c (rows off h) x ∗ anySlot (nxt c, par s) ∗ owing c (owedR c s + owedC c s)
        ∗ dutyTok ER (sendCell c (par s)) (s / 2) 0 ∗ reached ER (sendCell c (par s)) (s / 2)
        ∗ dutyTok ER (recvCell (nxt c) (par s)) (s / 2) 0 ∗ reached ER (recvCell (nxt c) (par s)) (s / 2))
      ⊢ iprop((iprop(cred (tallyAt (sendCell c (par s)) 0 N) ∗ owing c (owedR c (s + 1) + owedC c s)) -∗ WP c (k ⟨⟩) Q)
          -∗ WP c ((send off h n (par s) : PR F PUnit) >>= k) Q) := by
  subst hch; subst hn; subst hx
  simp only [Prog.lift, Prog.bind_op, Prog.bind_ret]
  unfold has owns anySlot Release.slot owing
  dsimp only
  iintro ⟨#HR, ⟨%fs, %hx, Hs⟩, ⟨%fd, Hd⟩, ⟨%W, HO⟩, Ht₁, #Hr₁, Ht₂, #Hr₂⟩ Hk
  iapply (Rounds.wp_send_pointsTo 𝒱₀ ER (ringRd m) (c : Thread nD τ) none (κ₁ := K (c, sIx (par s))) (κ₂ := K (nxt c, rIx (par s)))
    (r₁ := s / 2) (r₂ := s / 2) (d₁ := 0) (d₂ := 0) (fd := fd) (fs := fs) (q := fullShare) (O₀ := owedR c s + owedC c s)
    (by rw [duties_send _ _ _ _ (by omega)]; exact Finset.mem_singleton_self _) (by rw [duties_recv _ _ _ _ (by omega)]; exact Finset.mem_singleton_self _)
    s 0 N (amount_slot _ _) (amount_send m c _ _ _) (amount_recv m (nxt c) _ _ _) (owedR c (s + 1) + owedC c s)
    (by rw [owedR_step c hs]; exact add_right_comm _ _ _) (W := W)
    (by rw [payload_send]; unfold sendPay; rw [step_no]; exact has_of c (chk (ch c s)) hx)
    (by rw [payload_recv]; unfold recvPay; rw [step_no, prv_nxt]; exact has_landed' (nxt c) (chk (ch c s)) (slot (par s)) hx fd)) $$ [Hs Hd HO Ht₁ Ht₂]
  · isplitr; · iapply (inv_send m K KS c (par s)); iexact HR
    isplitr; · iapply (inv_recv m K KS (nxt c) (par s)); iexact HR
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists _; iexact HO

theorem lv_send (b : Fin 2) : lv (sendCell c b) 0 = 0 := by
  have h : ¬ ((SemLoc.dma (sendS b) : SemLoc sig) = .dma (recvS 0) ∨ (SemLoc.dma (sendS b) : SemLoc sig) = .dma (recvS 1)) := by revert b; decide
  unfold lv; rw [if_neg (fun h => by cases h), if_neg h]

theorem wait_sent (s : ℕ) : (lvs : sProp (MT nD τ sig ℕ (Elt F) ℕ UU ℕ)) ⊢ MayWait (c : Thread nD τ) (.dma (sendS (par s))) 0 (owedR c (s + 1) + owedC c s) :=
  mayWait c _ (by decide) (by rw [lv_send]; omega) (by rw [lv_send]; omega)
theorem wait_landed {s : ℕ} (hs : s < 62) : (lvs : sProp (MT nD τ sig ℕ (Elt F) ℕ UU ℕ)) ⊢ MayWait (c : Thread nD τ) (.dma (recvS (par s))) s (owedR c (s + 1) + owedC c s) :=
  mayWait c _ hs (by rw [lv_recv]; omega) (by rw [lv_recv]; omega)
theorem wait_credit {n s : ℕ} (hn : n < 61) (hs : n + 2 = s) : (lvs : sProp (MT nD τ sig ℕ (Elt F) ℕ UU ℕ)) ⊢ MayWait (c : Thread nD τ) (.reg credS) n (owedR c s + owedC c s) :=
  mayWait c _ (by omega) (by rw [lv_cred]; omega) (by rw [lv_cred]; omega)

/-- Its rows have left and are the sender's again. -/
theorem sent_step {s : ℕ} (hs : s < 62) :
    iprop(records m K KS ∗ cred (tallyAt (sendCell c (par s)) 0 N) ∗ owing c (owedR c (s + 1) + owedC c s) ∗ pos (sendCell c (par s)) (s / 2))
      ⊢ iprop((iprop(has c (chk (ch c s)) (sent m s c) ∗ owing c (owedR c (s + 1) + owedC c s) ∗ pos (sendCell c (par s)) (s / 2 + 1)) -∗ WP c (k ⟨⟩) Q)
          -∗ WP c ((waitSend off h (par s) : PR F PUnit) >>= k) Q) := by
  simp only [Prog.lift, Prog.bind_op, Prog.bind_ret]
  unfold owing pos
  iintro ⟨#HR, Hc, ⟨%W, HO⟩, Hat, -⟩ Hk
  ihave #Hlev := (the_levels m K KS) $$ HR
  iapply (Rounds.wp_wait_rest_token 𝒱₀ ER (ringRd m) (c : Thread nD τ) none (κ := K (c, sIx (par s)))
      (wpE_waitDma2_eq 𝒱₀ (c : Thread nD τ) none Set.univ) (Set.mem_univ _) 0 (O := owedR c (s + 1) + owedC c s) (W := W) (R := s / 2) (m := 0) (T := ∅)
      (by rw [Nat.zero_add, expect_send _ _ _ _ (by omega)])) $$ [Hc HO Hat]
  · isplitr; · iapply (inv_send m K KS c (par s)); iexact HR
    isplitl [Hc]; · iexact Hc
    isplitl [HO]; · iexact HO
    isplitr; · iapply (wait_sent c s) $$ Hlev
    iexact Hat
  iintro ⟨HO, Hat, Hr, Hpay⟩
  ihave Hp := (Entails.of_eq (rest_send m c (par s) (s / 2) (by omega))) $$ Hpay
  unfold sendPay
  rw [step_no]
  iapply Hk
  isplitl [Hp]; · iexact Hp
  isplitl [HO]; · iexists _; iexact HO
  isplitl [Hat]; · iexact Hat
  iexact Hr

/-- The left neighbour's rows have landed. -/
theorem landed_step {s : ℕ} (hs : s < 62) :
    iprop(records m K KS ∗ cred (tallyAt (recvCell c (par s)) s N) ∗ owing c (owedR c (s + 1) + owedC c s) ∗ pos (recvCell c (par s)) (s / 2))
      ⊢ iprop((iprop(has c (slot (par s)) (sent m s (prv c)) ∗ owing c (owedR c (s + 1) + owedC c s) ∗ pos (recvCell c (par s)) (s / 2 + 1)) -∗ WP c (k ⟨⟩) Q)
          -∗ WP c ((waitRecv off h (par s) : PR F PUnit) >>= k) Q) := by
  simp only [Prog.lift, Prog.bind_op, Prog.bind_ret]
  unfold owing pos
  iintro ⟨#HR, Hc, ⟨%W, HO⟩, Hat, -⟩ Hk
  ihave #Hlev := (the_levels m K KS) $$ HR
  iapply (Rounds.wp_wait_rest_token 𝒱₀ ER (ringRd m) (c : Thread nD τ) none (κ := K (c, rIx (par s)))
      (wpE_waitDma2_eq 𝒱₀ (c : Thread nD τ) none Set.univ) (Set.mem_univ _) s (O := owedR c (s + 1) + owedC c s) (W := W) (R := s / 2) (m := 0) (T := ∅)
      (by rw [Nat.zero_add, expect_recv _ _ _ _ (by omega)])) $$ [Hc HO Hat]
  · isplitr; · iapply (inv_recv m K KS c (par s)); iexact HR
    isplitl [Hc]; · iexact Hc
    isplitl [HO]; · iexact HO
    isplitr; · iapply (wait_landed c hs) $$ Hlev
    iexact Hat
  iintro ⟨HO, Hat, Hr, Hpay⟩
  ihave Hp := (Entails.of_eq (rest_recv m c (par s) (s / 2) (by omega))) $$ Hpay
  unfold recvPay
  rw [step_no]
  iapply Hk
  isplitl [Hp]; · iexact Hp
  isplitl [HO]; · iexists _; iexact HO
  isplitl [Hat]; · iexact Hat
  iexact Hr

end transfer

/-! ## Credits -/

/-- Among `n + 1` credits that have arrived is one of a step at least `n`, so what it tells holds for step `n`. -/
theorem told {T : Finset ℕ} {n : ℕ} (h : n + 1 ≤ T.card) : bigSep T (fun k => credPay (F := F) c k) ⊢ fact (F := F) (nxt c) n := by
  obtain ⟨k, hk, hn⟩ : ∃ k ∈ T, n ≤ k := by
    by_contra hc
    push Not at hc
    have := Finset.card_le_card (s := T) (t := Finset.range n) fun k hk => Finset.mem_range.mpr (hc k hk)
    rw [Finset.card_range] at this; omega
  exact (bigSep_elim hk).trans (bigSep_elim (Finset.mem_range.mpr (by omega)))

/-- The wait for one more credit. -/
theorem credit_step {n s : ℕ} (hn : n < 61) (hs : n + 2 = s) :
    iprop(records m K KS ∗ credSt c n ∗ cred (tallyAt (credCell c) n 1) ∗ owing c (owedR c s + owedC c s))
      ⊢ iprop((iprop(credSt c (n + 1) ∗ fact (nxt c) n ∗ owing c (owedR c s + owedC c s)) -∗ WP c (k ⟨⟩) Q)
          -∗ WP c ((semWaitWord credS 1#32 : PR F PUnit) >>= k) Q) := by
  simp only [semWaitWord, Prog.lift, Prog.bind_op, Prog.bind_ret]
  unfold owing credSt
  iintro ⟨#HR, ⟨%T, %hT, Hat, #Hp⟩, Hc, ⟨%W, HO⟩⟩ Hk
  ihave #Hlev := (the_levels m K KS) $$ HR
  iapply (Rounds.wp_wait 𝒱₀ ER (ringRd m) (c : Thread nD τ) none (κ := K (c, 4))
      (wpE_semWait_eq 𝒱₀ (c : Thread nD τ) none Set.univ) (Set.mem_univ _) {(SemLoc.reg credS, n)} (O := owedR c s + owedC c s) (W := W) (R := 0) (m := n) (T := T)
      (cr := Finsupp.single n 1) (by rw [Util.total_single]; rfl) (image_single_subset _ _ _)) $$ [Hc HO Hat]
  · isplitr; · iapply (inv_cred m K KS c); iexact HR
    isplitl [Hc]; · iexact Hc
    isplitl [HO]; · iexact HO
    isplitr; · iapply (wait_credit c hn hs) $$ Hlev
    iexact Hat
  iintro %S ⟨%hS, HO, Hat, Hnew'⟩
  ihave #Hnew := (Entails.of_eq (bigSep_congr fun d _ => payload_cred m c 0 d)) $$ Hnew'
  have hcard : n + 1 ≤ S.card := by
    have h1 := hS.2.2
    rw [duties_cred, expect_cred, Finset.card_sdiff_of_subset (by rw [← duties_cred m c]; exact hS.2.1), Finset.card_range] at h1
    have h2 := Finset.card_le_card hS.2.1
    rw [duties_cred, Finset.card_range] at h2
    change n + 1 + _ ≤ _ at h1
    omega
  ihave #Hall : (bigSep S (fun k => credPay c k)) $$ []
  · iapply (rejoined hS.1 (Φ := fun k => credPay (F := F) c k))
    isplitl; · iexact Hp
    iexact Hnew
  iapply Hk
  isplitl [Hat]
  · iexists S
    isplitr; · ipureintro; exact ⟨hcard, by rw [← duties_cred m c]; exact hS.2.1⟩
    isplitl [Hat]; · iexact Hat
    iexact Hall
  isplitr; · iapply (told c hcard); iexact Hall
  iexists _; iexact HO

/-- The slot has been read: it goes back, and the left neighbour is told. -/
theorem release_step {s : ℕ} (hs : s < 62) (x : X F) (n : Dev nD) (hn : n = prv c) :
    iprop(records m K KS ∗ has c (slot (par s)) x ∗ readerAt ES (c, par s) (s / 2) ∗ reached ER (recvCell c (par s)) (s / 2 + 1)
        ∗ (bigSep (Finset.range s) fun k => fact c k) ∗ dutyTok ER (credCell (prv c)) 0 s ∗ owing c (owedR c (s + 1) + owedC c s))
      ⊢ iprop((iprop(readerAt ES (c, par s) (s / 2 + 1) ∗ (bigSep (Finset.range (s + 1)) fun k => fact c k) ∗ owing c (owedR c (s + 1) + owedC c (s + 1))) -∗ WP c (k ⟨⟩) Q)
          -∗ WP c ((semSignalWord n credS 1#32 : PR F PUnit) >>= k) Q) := by
  subst hn
  simp only [semSignalWord, Prog.lift, Prog.bind_op, Prog.bind_ret]
  unfold owing
  iintro ⟨#HR, Hs, Hrd, #Hr, #Hf, Ht, ⟨%W, HO⟩⟩ Hk
  ihave Hsl : (anySlot (c, par s)) $$ [Hs]
  · unfold anySlot Release.slot has owns
    icases Hs with ⟨%f, -, Hs⟩
    iexists f; iexact Hs
  ihave #HI := (inv_slot m K KS c (par s)) $$ HR
  imod (Release.slot_release ES (Es := Set.univ) (Set.mem_univ _) (slot_false (c, par s)) (s / 2)) $$ [Hrd Hsl] with ⟨Hrd, #Hrel⟩
  · isplitr; · iexact HI
    isplitl [Hrd]; · iexact Hrd
    iexact Hsl
  ihave #Hall : (bigSep (Finset.range (s + 1)) (fun k => fact c k)) $$ []
  · rw [Finset.range_add_one]
    iapply (joined Finset.notMem_range_self (Φ := fun k => fact (F := F) c k))
    isplitl
    · unfold fact; isplitl; · iexact Hrel
      iexact Hr
    iexact Hf
  iapply (Rounds.wp_signal 𝒱₀ ER (ringRd m) (c : Thread nD τ) none (dst := (prv c : Thread nD τ)) (κ := K (prv c, 4)) (r := 0) (d := s)
      (by rw [duties_cred]; exact Finset.mem_range.mpr hs) ((amount_cred m (prv c) 0 s).trans (by decide)) s (O₀ := owedR c (s + 1) + owedC c s) (owedR c (s + 1) + owedC c (s + 1))
      (by rw [owedC_step c hs, ← add_assoc]; rfl)) $$ [HO Ht]
  · isplitr; · iapply (inv_cred m K KS (prv c)); iexact HR
    isplitl [HO]; · iexact HO
    isplitl [Ht]; · iexact Ht
    isplitr
    · rw [payload_cred]; unfold credPay; rw [nxt_prv]; iexact Hall
    · iapply (start_cred m K KS (prv c)); iexact HR
  iintro HO
  iapply Hk
  isplitl [Hrd]; · iexact Hrd
  isplitr; · iexact Hall
  iexists _; iexact HO

end Cert.KernelIdeal.Ring

end
-- ==== Proof.Around.lean ====
module

public import proofs.«01_k».proof.Proof.Rules
public import Idealize.SL.BI.BigOpNat

@[expose] public section

/-! # One step around the ring

From the state before step `s` the step's operations lead to the state before step `s + 1` (`step_ok`): first the wait for a
credit, from the third step on, which gives the neighbour's slot back to write in (`ready`); then the transfer, its two waits, the
sum or the copy, and the credit to the left neighbour (`turn`). -/

noncomputable section

namespace Cert.KernelIdeal.Ring

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ) (K : Dev nD × Fin 5 → ℕ) (KS : Dev nD × Fin 2 → ℕ) (c : Dev nD)

/-! ## What the rows hold -/

theorem cur_sent : ∀ s, cur m s c (ch c s) = sent m s c
  | 0 => rfl
  | _ + 1 => if_pos rfl

theorem cur_ini (j : Fin 32) : ∀ s, (∀ i, 1 ≤ i → i ≤ s → j ≠ ch c i) → cur m s c j = ini m c j
  | 0, _ => rfl
  | s + 1, h => by
    unfold cur
    rw [if_neg (h (s + 1) (by omega) le_rfl)]
    exact cur_ini j s fun i h1 h2 => h i h1 (by omega)

theorem cur_next {s : ℕ} (hs : s < 31) : cur m s c (ch c (s + 1)) = ini m c (ch c (s + 1)) :=
  cur_ini m c _ s fun i h1 h2 h => by
    have := congrArg Fin.val h
    unfold ch at this
    simp only at this
    omega

theorem sent_add {s : ℕ} (hs : s < 31) : sent m (s + 1) c = k0_pay1 (ini m c (ch c (s + 1))) (sent m s (prv c)) := if_pos hs
theorem sent_copy {s : ℕ} (hs : ¬ s < 31) : sent m (s + 1) c = sent m s (prv c) := if_neg hs

/-- All rows of the result before step `s`. -/
def held (s : ℕ) : sProp 𝕄 := bigSep Finset.univ fun j : Fin 32 => has c (chk j) (cur m s c j)

theorem held_out (s : ℕ) (j : Fin 32) : held m c s = iprop(has c (chk j) (cur m s c j) ∗ bigSep (Finset.univ.erase j) fun j : Fin 32 => has c (chk j) (cur m s c j)) :=
  apart (Finset.mem_univ j)

theorem held_next (s : ℕ) : iprop(has c (chk (ch c (s + 1))) (sent m (s + 1) c) ∗ bigSep (Finset.univ.erase (ch c (s + 1))) fun j : Fin 32 => has c (chk j) (cur m s c j)) ⊢ held m c (s + 1) := by
  rw [held_out m c (s + 1) (ch c (s + 1)), cur_sent]
  refine Entails.of_eq (congrArg (fun P => iprop(has c (chk (ch c (s + 1))) (sent m (s + 1) c) ∗ P)) (bigSep_congr fun j hj => ?_))
  rw [show cur m (s + 1) c j = cur m s c j from if_neg (Finset.ne_of_mem_erase hj)]

/-! ## The sum and the copy -/

/-- The two VMEM buffers at anything and the local copies' semaphores at zero. -/
def loc : sProp 𝕄 :=
  iprop((∃ a, has c accM a) ∗ (∃ a, has c tmpM a) ∗ semVal ((c : Thread nD τ), .dma (locS 0)) 0 ∗ semVal ((c : Thread nD τ), .dma (locS 1)) 0)

section Work

variable {k : PUnit.{1} → PR F PUnit.{1}} {Q : PUnit.{1} → sProp (MT nD τ sig ℕ (Elt F) ℕ UU ℕ)}

/-- Rows and a landed slot are brought to VMEM, added, and the sum is brought back. -/
theorem sum_work (off : Fin 2 → Nat) (h : ∀ a, off a + S128x8192.size a ≤ S4096x8192.size a) (j : Fin 32) (hoff : off = ![128 * j.val, 0]) (b : Fin 2) (x y : X F) (s₁ s₂ : ℕ) :
    iprop(lvs ∗ has c (chk j) x ∗ has c (slot b) y ∗ loc c ∗ owing c (owedR c s₁ + owedC c s₂))
      ⊢ iprop((iprop(has c (chk j) (k0_pay1 x y) ∗ has c (slot b) y ∗ loc c ∗ owing c (owedR c s₁ + owedC c s₂)) -∗ WP c (k ⟨⟩) Q)
          -∗ WP c ((getAcc off h : PR F PUnit) >>= fun _ => (getTmp b : PR F PUnit) >>= fun _ => (waitAcc off h : PR F PUnit) >>= fun _ => (waitTmp b : PR F PUnit) >>= fun _ =>
              (addUp : PR F PUnit) >>= fun _ => (put off h : PR F PUnit) >>= fun _ => (waitPut off h : PR F PUnit) >>= k) Q) := by
  subst hoff
  unfold loc
  iintro ⟨#Hlev, Hx, Hy, ⟨Ha, Ht, Hv0, Hv1⟩, HO⟩ Hk
  iapply (start_copy c (chk j) accM 0 (by decide) x) $$ [Hx Ha Hv0]
  · isplitl [Hx]; · iexact Hx
    isplitl [Ha] <;> iassumption
  iintro Hf0
  iapply (start_copy c (slot b) tmpM 1 (by decide) y) $$ [Hy Ht Hv1]
  · isplitl [Hy]; · iexact Hy
    isplitl [Ht] <;> iassumption
  iintro Hf1
  iapply (wait_copy c (chk j) accM 0 x s₁ s₂) $$ [Hf0 HO]
  · isplitl [Hf0]; · iexact Hf0
    isplitl [HO]; · iexact HO
    iexact Hlev
  iintro ⟨Ha, Hx, Hv0, HO⟩
  iapply (wait_copy c (slot b) tmpM 1 y s₁ s₂) $$ [Hf1 HO]
  · isplitl [Hf1]; · iexact Hf1
    isplitl [HO]; · iexact HO
    iexact Hlev
  iintro ⟨Ht, Hy, Hv1, HO⟩
  iapply (add_up c x y) $$ [Ha Ht]
  · isplitl [Ha] <;> iassumption
  iintro ⟨Ha, Ht⟩
  iapply (start_copy c accM (chk j) 0 (by decide) (k0_pay1 x y)) $$ [Ha Hx Hv0]
  · isplitl [Ha]; · iexact Ha
    isplitl [Hx]; · iexists x; iexact Hx
    iexact Hv0
  iintro Hf0
  iapply (wait_copy c accM (chk j) 0 (k0_pay1 x y) s₁ s₂) $$ [Hf0 HO]
  · isplitl [Hf0]; · iexact Hf0
    isplitl [HO]; · iexact HO
    iexact Hlev
  iintro ⟨Hx, Ha, Hv0, HO⟩
  iapply Hk
  isplitl [Hx]; · iexact Hx
  isplitl [Hy]; · iexact Hy
  isplitr [HO]
  · isplitl [Ha]; · iexists _; iexact Ha
    isplitl [Ht]; · iexists _; iexact Ht
    isplitl [Hv0] <;> iassumption
  iexact HO

/-- A landed slot is copied into rows. -/
theorem copy_work (off : Fin 2 → Nat) (h : ∀ a, off a + S128x8192.size a ≤ S4096x8192.size a) (j : Fin 32) (hoff : off = ![128 * j.val, 0]) (b : Fin 2) (x y : X F) (s₁ s₂ : ℕ) :
    iprop(lvs ∗ has c (chk j) x ∗ has c (slot b) y ∗ loc c ∗ owing c (owedR c s₁ + owedC c s₂))
      ⊢ iprop((iprop(has c (chk j) y ∗ has c (slot b) y ∗ loc c ∗ owing c (owedR c s₁ + owedC c s₂)) -∗ WP c (k ⟨⟩) Q)
          -∗ WP c ((copy off h b : PR F PUnit) >>= fun _ => (waitCopy off h b : PR F PUnit) >>= k) Q) := by
  subst hoff
  unfold loc
  iintro ⟨#Hlev, Hx, Hy, ⟨Ha, Ht, Hv0, Hv1⟩, HO⟩ Hk
  iapply (start_copy c (slot b) (chk j) 0 (by decide) y) $$ [Hx Hy Hv0]
  · isplitl [Hy]; · iexact Hy
    isplitl [Hx]; · iexists x; iexact Hx
    iexact Hv0
  iintro Hf0
  iapply (wait_copy c (slot b) (chk j) 0 y s₁ s₂) $$ [Hf0 HO]
  · isplitl [Hf0]; · iexact Hf0
    isplitl [HO]; · iexact HO
    iexact Hlev
  iintro ⟨Hx, Hy, Hv0, HO⟩
  iapply Hk
  isplitl [Hx]; · iexact Hx
  isplitl [Hy]; · iexact Hy
  isplitr [HO]
  · isplitl [Ha]; · iexact Ha
    isplitl [Ht]; · iexact Ht
    isplitl [Hv0] <;> iassumption
  iexact HO

end Work

/-! ## The state, and the wait for a credit -/

/-- What stays as it is during step `s`, the credits counted as after its wait for one. -/
def aside (s : ℕ) : sProp 𝕄 :=
  iprop(pos (recvCell c (par (s + 1))) ((s + 1) / 2) ∗ pos (sendCell c (par (s + 1))) ((s + 1) / 2) ∗ readerAt ES (c, par (s + 1)) ((s + 1) / 2)
    ∗ credSt c (s + 1 - 2) ∗ (bigSep (Finset.Ico (s + 1) 62) fun k => pays c k) ∗ bigSep (Finset.Ico (s + 1 - 2) 62) fun k => cred (tallyAt (credCell c) k 1))

/-- What step `s` uses once the neighbour's slot is in hand. -/
def hand (s : ℕ) : sProp 𝕄 :=
  iprop(held m c s ∗ loc c ∗ owing c (owedR c s + owedC c s)
    ∗ pos (recvCell c (par s)) (s / 2) ∗ pos (sendCell c (par s)) (s / 2) ∗ readerAt ES (c, par s) (s / 2)
    ∗ (anySlot (nxt c, par s) ∗ reached ER (recvCell (nxt c) (par s)) (s / 2))
    ∗ (dutyTok ER (recvCell (nxt c) (par s)) (s / 2) 0 ∗ dutyTok ER (sendCell c (par s)) (s / 2) 0 ∗ dutyTok ER (credCell (prv c)) 0 s
      ∗ cred (tallyAt (recvCell c (par s)) s N))
    ∗ bigSep (Finset.range s) fun k => fact c k)

theorem pays_def (k : ℕ) : pays (F := F) c k = iprop(wr c k ∗ dutyTok ER (recvCell (nxt c) (par k)) (k / 2) 0 ∗ dutyTok ER (sendCell c (par k)) (k / 2) 0
    ∗ dutyTok ER (credCell (prv c)) 0 k ∗ cred (tallyAt (recvCell c (par k)) k N)) := rfl

theorem fact_def (d : Dev nD) (k : ℕ) : fact (F := F) d k = iprop(released ES (d, par k) (k / 2 + 1) ∗ reached ER (recvCell d (par k)) (k / 2 + 1)) := rfl
theorem owing_of (O : CellTallies nD τ sig ℕ) : (iprop(∃ W, owes (c : Thread nD τ) O W) : sProp 𝕄) ⊢ owing c O := .rfl

theorem wr_early {s : ℕ} (h : s < 2) : wr (F := F) c s = anySlot (nxt c, par s) := if_pos h
theorem wr_late {n : ℕ} : wr (F := F) c (n + 2) = writeTok ES (nxt c, par n) (n / 2 + 1) := by
  unfold wr; rw [if_neg (by omega), par_two, half_two]

theorem pays_out {s : ℕ} (hs : s < 62) : (bigSep (Finset.Ico s 62) fun k => pays (F := F) c k) = iprop(pays c s ∗ bigSep (Finset.Ico (s + 1) 62) fun k => pays c k) :=
  bigSep_Ico_succ_bot hs _
theorem creds_out {n : ℕ} (hs : n < 62) :
    (bigSep (Finset.Ico n 62) fun k => (cred (tallyAt (credCell c) k 1) : sProp 𝕄)) = iprop(cred (tallyAt (credCell c) n 1) ∗ bigSep (Finset.Ico (n + 1) 62) fun k => cred (tallyAt (credCell c) k 1)) :=
  bigSep_Ico_succ_bot hs _

variable {k : PUnit.{1} → PR F PUnit.{1}} {Q : PUnit.{1} → sProp (MT nD τ sig ℕ (Elt F) ℕ UU ℕ)}

/-- The first two steps have the slot from the launch; a later one waits for a credit and takes the slot out of its invariant. -/
theorem ready {s : ℕ} (hs : s < 62) :
    iprop(records m K KS ∗ St m c s)
      ⊢ iprop((iprop(aside c s ∗ hand m c s) -∗ WP c (k ⟨⟩) Q)
          -∗ WP c ((runL c (if 2 ≤ s then [.waitCred] else []) : PR F PUnit) >>= k) Q) := by
  by_cases h2 : 2 ≤ s
  · obtain ⟨n, rfl⟩ : ∃ n, s = n + 2 := ⟨s - 2, by omega⟩
    rw [if_pos h2]
    simp only [runL, Op.prog, bind_assoc, pure_bind]
    unfold St flow aside hand held loc
    rw [pays_out c hs, show n + 2 + 1 - 2 = n + 1 by omega, show n + 2 - 2 = n by omega, creds_out c (by omega : n < 62),
      pays_def c (n + 2), wr_late c, par_two, half_two]
    iintro ⟨#HR, Hh, Ha, Ht, Hv0, Hv1, HO, ⟨Hp1, Hp1'⟩, ⟨Hp2, Hp2'⟩, ⟨Hr, Hr'⟩, Hcs, ⟨⟨Hw, Ht1, Ht2, Ht3, Hc⟩, Hpays⟩, ⟨Hc0, Hcr⟩, Hf⟩ Hk
    ihave HO := (owing_of c _) $$ HO
    iapply (credit_step c m K KS (n := n) (s := n + 2) (by omega) rfl) $$ [Hcs Hc0 HO]
    · isplitr; · iexact HR
      isplitl [Hcs]; · iexact Hcs
      isplitl [Hc0]; · iexact Hc0
      iexact HO
    iintro ⟨Hcs, Hfn, HO⟩
    ihave Hfn := (Entails.of_eq (fact_def (nxt c) n)) $$ Hfn
    icases Hfn with ⟨Hrel, Hrn⟩
    ihave #HI := (inv_slot m K KS (nxt c) (par n)) $$ HR
    imod (Release.slot_take ES (Es := Set.univ) (Set.mem_univ _) (n / 2 + 1)) $$ [Hrel Hw] with Hsl
    · isplitr; · iexact HI
      isplitl [Hrel]; · iexact Hrel
      iexact Hw
    iapply Hk
    isplitl [Hp1' Hp2' Hr' Hcs Hpays Hcr]
    · isplitl [Hp1']; · iexact Hp1'
      isplitl [Hp2']; · iexact Hp2'
      isplitl [Hr']; · iexact Hr'
      isplitl [Hcs]; · iexact Hcs
      isplitl [Hpays]; · iexact Hpays
      iexact Hcr
    isplitl [Hh]; · iexact Hh
    isplitl [Ha Ht Hv0 Hv1]
    · isplitl [Ha]; · iexact Ha
      isplitl [Ht]; · iexact Ht
      isplitl [Hv0] <;> iassumption
    isplitl [HO]; · iexact HO
    isplitl [Hp1]; · iexact Hp1
    isplitl [Hp2]; · iexact Hp2
    isplitl [Hr]; · iexact Hr
    isplitl [Hsl Hrn]
    · isplitl [Hsl]; · iexact Hsl
      iexact Hrn
    isplitl [Ht1 Ht2 Ht3 Hc]
    · isplitl [Ht1]; · iexact Ht1
      isplitl [Ht2]; · iexact Ht2
      isplitl [Ht3] <;> iassumption
    iexact Hf
  · rw [if_neg h2]
    simp only [runL, pure_bind]
    unfold St flow aside hand held loc
    rw [pays_out c hs, show s + 1 - 2 = 0 by omega, show s - 2 = 0 by omega,
      pays_def c s, wr_early c (by omega : s < 2), show s / 2 = 0 by omega]
    iintro ⟨#HR, Hh, Ha, Ht, Hv0, Hv1, HO, ⟨Hp1, Hp1'⟩, ⟨Hp2, Hp2'⟩, ⟨Hr, Hr'⟩, Hcs, ⟨⟨Hsl, Ht1, Ht2, Ht3, Hc⟩, Hpays⟩, Hcr, Hf⟩ Hk
    ihave HO := (owing_of c _) $$ HO
    iapply Hk
    isplitl [Hp1' Hp2' Hr' Hcs Hpays Hcr]
    · isplitl [Hp1']; · iexact Hp1'
      isplitl [Hp2']; · iexact Hp2'
      isplitl [Hr']; · iexact Hr'
      isplitl [Hcs]; · iexact Hcs
      isplitl [Hpays]; · iexact Hpays
      iexact Hcr
    isplitl [Hh]; · iexact Hh
    isplitl [Ha Ht Hv0 Hv1]
    · isplitl [Ha]; · iexact Ha
      isplitl [Ht]; · iexact Ht
      isplitl [Hv0] <;> iassumption
    isplitl [HO]; · iexact HO
    isplitl [Hp1]; · iexact Hp1
    isplitl [Hp2]; · iexact Hp2
    isplitl [Hr]; · iexact Hr
    isplitl [Hsl]
    · isplitl [Hsl]; · iexact Hsl
      iapply (start_recv m K KS (nxt c) (par s)); iexact HR
    isplitl [Ht1 Ht2 Ht3 Hc]
    · isplitl [Ht1]; · iexact Ht1
      isplitl [Ht2]; · iexact Ht2
      isplitl [Ht3] <;> iassumption
    iexact Hf

/-! ## The turn -/

theorem pos_def (g : Thread nD τ × SemLoc sig) (r : ℕ) : (pos g r : sProp 𝕄) = iprop(atPos ER g r ∅ 0 ∗ reached ER g r) := rfl

/-- What a turn leaves makes the next state. -/
theorem St_next (s : ℕ) : iprop(aside c s ∗ held m c (s + 1) ∗ loc c ∗ owing c (owedR c (s + 1) + owedC c (s + 1))
    ∗ pos (recvCell c (par s)) (s / 2 + 1) ∗ pos (sendCell c (par s)) (s / 2 + 1) ∗ readerAt ES (c, par s) (s / 2 + 1) ∗ bigSep (Finset.range (s + 1)) fun k => fact c k)
    ⊢ St m c (s + 1) := by
  unfold St flow aside loc held owing
  rw [par_two, half_two]
  iintro ⟨⟨Hp1', Hp2', Hr', Hcs, Hpays, Hcr⟩, Hh, ⟨Ha, Ht, Hv0, Hv1⟩, HO, Hp1, Hp2, Hr, Hf⟩
  isplitl [Hh]; · iexact Hh
  isplitl [Ha]; · iexact Ha
  isplitl [Ht]; · iexact Ht
  isplitl [Hv0]; · iexact Hv0
  isplitl [Hv1]; · iexact Hv1
  isplitl [HO]; · iexact HO
  isplitl [Hp1' Hp1]; · isplitl [Hp1'] <;> iassumption
  isplitl [Hp2' Hp2]; · isplitl [Hp2'] <;> iassumption
  isplitl [Hr' Hr]; · isplitl [Hr'] <;> iassumption
  isplitl [Hcs]; · iexact Hcs
  isplitl [Hpays]; · iexact Hpays
  isplitl [Hcr]; · iexact Hcr
  iexact Hf

/-- Transfer, waits, sum or copy (`w`), credit. -/
theorem turn {s : ℕ} (hs : s < 62) (off : Fin 2 → Nat) (h : ∀ a, off a + S128x8192.size a ≤ S4096x8192.size a) (hoff : off = ![128 * (ch c s).val, 0])
    (n n' : Dev nD) (hn : n = nxt c) (hn' : n' = prv c) (w : PR F PUnit)
    (hw : ∀ k : PUnit.{1} → PR F PUnit.{1}, iprop(lvs ∗ has c (chk (ch c (s + 1))) (cur m s c (ch c (s + 1))) ∗ has c (slot (par s)) (sent m s (prv c)) ∗ loc c ∗ owing c (owedR c (s + 1) + owedC c s))
      ⊢ iprop((iprop(has c (chk (ch c (s + 1))) (sent m (s + 1) c) ∗ has c (slot (par s)) (sent m s (prv c)) ∗ loc c ∗ owing c (owedR c (s + 1) + owedC c s)) -∗ WP c (k ⟨⟩) Q)
          -∗ WP c (w >>= k) Q)) :
    iprop(records m K KS ∗ aside c s ∗ hand m c s)
      ⊢ iprop((St m c (s + 1) -∗ WP c (k ⟨⟩) Q)
          -∗ WP c ((send off h n (par s) : PR F PUnit) >>= fun _ => (waitSend off h (par s) : PR F PUnit) >>= fun _ => (waitRecv off h (par s) : PR F PUnit) >>= fun _ =>
              w >>= fun _ => (semSignalWord n' credS 1#32 : PR F PUnit) >>= k) Q) := by
  subst hoff
  unfold hand
  rw [held_out m c s (ch c s), cur_sent, pos_def (sendCell c (par s)) (s / 2)]
  iintro ⟨#HR, Has, ⟨⟨Hx, Hrest⟩, Hl, HO, Hp1, ⟨Hat2, #Hre2⟩, Hr, ⟨Hsl, #Hrn⟩, ⟨Ht1, Ht2, Ht3, Hc⟩, Hf⟩⟩ Hk
  iapply (send_step c m K KS _ h hs (sent m s c) rfl rfl n hn) $$ [Hx Hsl HO Ht1 Ht2]
  · isplitr; · iexact HR
    isplitl [Hx]; · iexact Hx
    isplitl [Hsl]; · iexact Hsl
    isplitl [HO]; · iexact HO
    isplitl [Ht2]; · iexact Ht2
    isplitr; · iexact Hre2
    isplitl [Ht1]; · iexact Ht1
    iexact Hrn
  iintro ⟨Hcs, HO⟩
  iapply (sent_step c m K KS _ h hs) $$ [Hcs HO Hat2]
  · isplitr; · iexact HR
    isplitl [Hcs]; · iexact Hcs
    isplitl [HO]; · iexact HO
    unfold pos
    isplitl [Hat2]; · iexact Hat2
    iexact Hre2
  iintro ⟨Hx, HO, Hp2⟩
  iapply (landed_step c m K KS _ h hs) $$ [Hc HO Hp1]
  · isplitr; · iexact HR
    isplitl [Hc]; · iexact Hc
    isplitl [HO]; · iexact HO
    iexact Hp1
  iintro ⟨Hy, HO, Hp1⟩
  ihave Hp1 := (Entails.of_eq (pos_def _ _)) $$ Hp1
  icases Hp1 with ⟨Hat1, #Hre1⟩
  ihave Hall : (held m c s) $$ [Hx Hrest]
  · iapply (Entails.of_eq (show iprop(has c (chk (ch c s)) (sent m s c) ∗ bigSep (Finset.univ.erase (ch c s)) fun j : Fin 32 => has c (chk j) (cur m s c j)) = held m c s by rw [held_out m c s (ch c s), cur_sent]))
    isplitl [Hx] <;> iassumption
  ihave Hall := (Entails.of_eq (held_out m c s (ch c (s + 1)))) $$ Hall
  icases Hall with ⟨Hx, Hrest⟩
  ihave #Hlev := (the_levels m K KS) $$ HR
  iapply (hw _) $$ [Hx Hy Hl HO]
  · isplitr; · iexact Hlev
    isplitl [Hx]; · iexact Hx
    isplitl [Hy]; · iexact Hy
    isplitl [Hl] <;> iassumption
  iintro ⟨Hx, Hy, Hl, HO⟩
  iapply (release_step c m K KS hs _ n' hn') $$ [Hy Hr Hf Ht3 HO]
  · isplitr; · iexact HR
    isplitl [Hy]; · iexact Hy
    isplitl [Hr]; · iexact Hr
    isplitr; · iexact Hre1
    isplitl [Hf]; · iexact Hf
    isplitl [Ht3] <;> iassumption
  iintro ⟨Hr, Hf, HO⟩
  ihave Hh := (held_next m c s) $$ [Hx Hrest]
  · isplitl [Hx] <;> iassumption
  iapply Hk
  iapply (St_next m c s)
  unfold pos
  isplitl [Has]; · iexact Has
  isplitl [Hh]; · iexact Hh
  isplitl [Hl]; · iexact Hl
  isplitl [HO]; · iexact HO
  isplitl [Hat1]
  · isplitl [Hat1]; · iexact Hat1
    iexact Hre1
  isplitl [Hp2]; · iexact Hp2
  isplitl [Hr]; · iexact Hr
  iexact Hf

theorem at_rows (a s : ℕ) (h : a % 32 = (c.val + 64 - s) % 32) : (![128 * (a % 32), 0] : Fin 2 → ℕ) = ![128 * (ch c s).val, 0] := by
  rw [h]; rfl

theorem run_sum (d : Dev nD) (r : Fin 31) (b : Fin 2) (k : PUnit.{1} → PR F PUnit.{1}) : ((runL d (stepR r b) : PR F PUnit) >>= k)
    = ((send (k0_off1 d (BitVec.ofNat 32 r.val)) (k0_off1_inb d r) (rgt d) b : PR F PUnit) >>= fun _ => (waitSend (k0_off1 d (BitVec.ofNat 32 r.val)) (k0_off1_inb d r) b : PR F PUnit) >>= fun _ =>
        (waitRecv (k0_off1 d (BitVec.ofNat 32 r.val)) (k0_off1_inb d r) b : PR F PUnit) >>= fun _ =>
        ((getAcc (k0_off2 d (BitVec.ofNat 32 r.val)) (k0_off2_inb d r) : PR F PUnit) >>= fun _ => (getTmp b : PR F PUnit) >>= fun _ =>
          (waitAcc (k0_off2 d (BitVec.ofNat 32 r.val)) (k0_off2_inb d r) : PR F PUnit) >>= fun _ => (waitTmp b : PR F PUnit) >>= fun _ => (addUp : PR F PUnit) >>= fun _ =>
          (put (k0_off2 d (BitVec.ofNat 32 r.val)) (k0_off2_inb d r) : PR F PUnit) >>= fun _ => (waitPut (k0_off2 d (BitVec.ofNat 32 r.val)) (k0_off2_inb d r) : PR F PUnit)) >>= fun _ =>
        (semSignalWord (lft d) credS 1#32 : PR F PUnit) >>= k) := by
  simp only [stepR, runL, Op.prog, bind_assoc, pure_bind]

theorem run_copy (d : Dev nD) (r : Fin 31) (b : Fin 2) (k : PUnit.{1} → PR F PUnit.{1}) : ((runL d (stepG r b) : PR F PUnit) >>= k)
    = ((send (k0_off3 d (BitVec.ofNat 32 r.val)) (k0_off3_inb d r) (rgt d) b : PR F PUnit) >>= fun _ => (waitSend (k0_off3 d (BitVec.ofNat 32 r.val)) (k0_off3_inb d r) b : PR F PUnit) >>= fun _ =>
        (waitRecv (k0_off3 d (BitVec.ofNat 32 r.val)) (k0_off3_inb d r) b : PR F PUnit) >>= fun _ =>
        ((copy (k0_off1 d (BitVec.ofNat 32 r.val)) (k0_off1_inb d r) b : PR F PUnit) >>= fun _ => (waitCopy (k0_off1 d (BitVec.ofNat 32 r.val)) (k0_off1_inb d r) b : PR F PUnit)) >>= fun _ =>
        (semSignalWord (lft d) credS 1#32 : PR F PUnit) >>= k) := by
  simp only [stepG, runL, Op.prog, bind_assoc, pure_bind]

/-- A turn that adds. -/
theorem turn_sum (r : Fin 31) (s : ℕ) (hr : s = r.val) :
    iprop(records m K KS ∗ aside c s ∗ hand m c s)
      ⊢ iprop((St m c (s + 1) -∗ WP c (k ⟨⟩) Q) -∗ WP c ((runL c (stepR r (par s)) : PR F PUnit) >>= k) Q) := by
  have h31 : s < 31 := hr ▸ r.isLt
  have hc : c.val < 32 := c.isLt
  rw [run_sum]
  refine turn m K KS c (by omega) _ _ (by rw [k0_off1_eq]; exact at_rows c _ _ (by omega)) _ _ (rgt_eq c) (lft_eq c) _ fun k => ?_
  simp only [bind_assoc]
  rw [sent_add m c h31, ← cur_next m c h31]
  exact sum_work c _ _ _ (by rw [k0_off2_eq]; exact at_rows c _ _ (by omega)) _ _ _ _ _

/-- A turn that copies. -/
theorem turn_copy (r : Fin 31) (s : ℕ) (hr : s = 31 + r.val) :
    iprop(records m K KS ∗ aside c s ∗ hand m c s)
      ⊢ iprop((St m c (s + 1) -∗ WP c (k ⟨⟩) Q) -∗ WP c ((runL c (stepG r (par s)) : PR F PUnit) >>= k) Q) := by
  have h31 := r.isLt
  have hc : c.val < 32 := c.isLt
  rw [run_copy]
  refine turn m K KS c (by omega) _ _ (by rw [k0_off3_eq]; exact at_rows c _ _ (by omega)) _ _ (rgt_eq c) (lft_eq c) _ fun k => ?_
  simp only [bind_assoc]
  rw [sent_copy m c (by omega)]
  exact copy_work c _ _ _ (by rw [k0_off1_eq]; exact at_rows c _ _ (by omega)) _ _ _ _ _

/-- One step. -/
theorem step_ok {s : ℕ} (hs : s < 62) :
    iprop(records m K KS ∗ St m c s) ⊢ iprop((St m c (s + 1) -∗ WP c (k ⟨⟩) Q) -∗ WP c ((runL c (step s) : PR F PUnit) >>= k) Q) := by
  unfold step
  rw [runL_append, bind_assoc]
  iintro ⟨#HR, HS⟩ Hk
  iapply (ready m K KS c hs) $$ [HS]
  · isplitr; · iexact HR
    iexact HS
  iintro ⟨Has, Hh⟩
  by_cases h : s < 31
  · rw [if_pos h]
    iapply (turn_sum m K KS c ⟨s % 31, Nat.mod_lt _ (by decide)⟩ s (Nat.mod_eq_of_lt h).symm) $$ [Has Hh] [Hk]
    · isplitr; · iexact HR
      isplitl [Has] <;> iassumption
    · iexact Hk
  · rw [if_neg h]
    iapply (turn_copy m K KS c ⟨(s - 31) % 31, Nat.mod_lt _ (by decide)⟩ s (by simp only; omega)) $$ [Has Hh] [Hk]
    · isplitr; · iexact HR
      isplitl [Has] <;> iassumption
    · iexact Hk

end Cert.KernelIdeal.Ring

end
-- ==== Proof.Whole.lean ====
module

public import proofs.«01_k».proof.Proof.Around

@[expose] public section

/-! # The whole body

The partial product is copied into the result, the result is taken apart into its 32 blocks of rows, the 62 steps run, the last
two credits are waited for, and the five cells are closed: the result, put together again, holds on every device the same
contents, `out`. -/

noncomputable section

namespace Cert.KernelIdeal.Ring

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ) (K : Dev nD × Fin 5 → ℕ) (KS : Dev nD × Fin 2 → ℕ) (c : Dev nD)

/-! ## The result, block by block -/

/-- The rectangle of block `j`. -/
abbrev rct (j : Fin 32) : Rect S4096x8192 := Rect.unit (s := S4096x8192) ![128 * j.val, 0] S128x8192.size (inb_chk j)

theorem rct_disjoint : ∀ j j' : Fin 32, j ≠ j' → Disjoint (rct j).set (rct j').set :=
  Idealize.ShloMosaic.Ring.lead_disjoint (s := S4096x8192) (0 : Fin 2) 128 (fun j : Fin 32 => ![128 * j.val, 0]) S128x8192.size inb_chk (fun _ => rfl) rfl
theorem rct_cover : Finset.univ.biUnion (fun j => (rct j).set) = Finset.univ :=
  Idealize.ShloMosaic.Ring.lead_cover (s := S4096x8192) (0 : Fin 2) 128 (fun j : Fin 32 => ![128 * j.val, 0]) S128x8192.size inb_chk (fun _ => rfl)
    (fun j a ha => by fin_cases a <;> [exact absurd rfl ha; rfl]) rfl (fun a ha => by fin_cases a <;> [exact absurd rfl ha; rfl]) rfl

/-- The device in whose hands block `j` is complete. -/
def last (j : Fin 32) : Dev nD := ⟨(j.val + 31) % 32, Nat.mod_lt _ (by decide)⟩

/-- What every device holds in the end. -/
def out (i : S4096x8192.Idx) : Elt F .f32 :=
  sent m 31 (last ⟨(i 0).val / 128, by have : (i 0).val < 4096 := (i 0).isLt; omega⟩)
    (fun a => ⟨if a = 0 then (i 0).val % 128 else (i 1).val, by
      have h0 : (i 0).val % 128 < 128 := Nat.mod_lt _ (by decide)
      have h1 : (i 1).val < 8192 := (i 1).isLt
      fin_cases a
      · exact h0
      · exact h1⟩)

theorem out_rct (j : Fin 32) : (fun k => out m ((rct j).emb k)) = sent m 31 (last j) := by
  funext k
  have hk0 : (k 0).val < 128 := (k 0).isLt
  have e0 : ((rct j).emb k 0).val = 128 * j.val + (k 0).val := by
    show (rct j).off 0 + (rct j).stride 0 * (k 0).val = _
    exact congrArg₂ (· + ·) rfl (Nat.one_mul _)
  have e1 : ((rct j).emb k 1).val = (k 1).val := by
    show (rct j).off 1 + (rct j).stride 1 * (k 1).val = _
    exact (congrArg₂ (· + ·) rfl (Nat.one_mul _)).trans (Nat.zero_add _)
  unfold out
  refine congr (congrArg (fun x => sent m 31 (last x)) (Fin.ext (show ((rct j).emb k 0).val / 128 = j.val by rw [e0]; omega))) (funext fun a => ?_)
  fin_cases a
  · exact Fin.ext (show ((rct j).emb k 0).val % 128 = (k 0).val by rw [e0]; omega)
  · exact Fin.ext e1

/-- From step 31 on what is sent has only travelled. -/
theorem sent_far (d : Dev nD) : ∀ r (c : Dev nD), (d.val + r) % 32 = c.val → sent m (31 + r) c = sent m 31 d
  | 0, c, h => by
    have hd : d.val < 32 := d.isLt
    exact congrArg (sent m 31) (Fin.ext (by rw [← h]; omega))
  | r + 1, c, h => by
    rw [← Nat.add_assoc, sent_copy m c (by omega)]
    exact sent_far d r (prv c) (by unfold prv; simp only; omega)

/-- A block holds what was last put there. -/
theorem cur_last (j : Fin 32) (i : ℕ) : ∀ n, j = ch c (i + 1) → (∀ i', i + 1 < i' → i' ≤ i + 1 + n → j ≠ ch c i') → cur m (i + 1 + n) c j = sent m (i + 1) c
  | 0, h, _ => if_pos h
  | n + 1, h, h' => by
    rw [← Nat.add_assoc]
    refine (if_neg (h' _ (by omega) (by omega))).trans ?_
    exact cur_last j i n h fun i' h1 h2 => h' i' h1 (by omega)

theorem cur_end (j : Fin 32) : cur m 62 c j = sent m 31 (last j) := by
  have hc : c.val < 32 := c.isLt
  have hj := j.isLt
  obtain ⟨r, hr, hr'⟩ : ∃ r, r < 32 ∧ (r + j.val + 31) % 32 = c.val := ⟨(c.val + 64 - j.val - 31) % 32, Nat.mod_lt _ (by decide), by omega⟩
  have h := cur_last m c j (30 + r) (31 - r) (Fin.ext (by unfold ch; simp only; omega)) fun i' h1 h2 e => by
    have := congrArg Fin.val e
    unfold ch at this
    simp only at this
    omega
  rw [show 30 + r + 1 + (31 - r) = 62 by omega, show 30 + r + 1 = 31 + r by omega] at h
  rw [h]
  exact sent_far m (last j) r c (by unfold last; simp only; omega)

/-- The result taken apart. -/
theorem take_apart (f : oM.view.ty.Contents (Elt F)) : (has c oM f : sProp 𝕄) ⊢ bigSep Finset.univ fun j : Fin 32 => has c (chk j) ((chk j).view.read (Elt F) f) :=
  owns_rects (c : Thread nD τ) oM fullShare rct (fun _ _ => rfl) rct_disjoint rct_cover f

/-- The result put together at the end. -/
theorem put_together : (bigSep Finset.univ fun j : Fin 32 => has c (chk j) (cur m 62 c j)) ⊢ has c oM (out m) := by
  refine BIBase.Entails.trans (Entails.of_eq (bigSep_congr fun j _ => ?_)) (owns_of_rects (c : Thread nD τ) oM fullShare rct (fun _ _ => rfl) rct_disjoint rct_cover (out m))
  rw [cur_end, ← out_rct]

/-! ## The steps in a row -/

variable {k : PUnit.{1} → PR F PUnit.{1}} {Q : PUnit.{1} → sProp (MT nD τ sig ℕ (Elt F) ℕ UU ℕ)}

theorem steps_ok : ∀ n s, s + n = 62 →
    iprop(records m K KS ∗ St m c s) ⊢ iprop((St m c 62 -∗ WP c (k ⟨⟩) Q) -∗ WP c ((runL c ((List.range' s n).flatMap step) : PR F PUnit) >>= k) Q)
  | 0, s, h => by
    obtain rfl : s = 62 := by omega
    simp only [List.range'_zero, List.flatMap_nil, runL, pure_bind]
    iintro ⟨-, HS⟩ Hk
    iapply Hk; iexact HS
  | n + 1, s, h => by
    rw [List.range'_succ, List.flatMap_cons, runL_append, bind_assoc]
    iintro ⟨#HR, HS⟩ Hk
    iapply (step_ok m K KS c (by omega)) $$ [HS]
    · isplitr; · iexact HR
      iexact HS
    iintro HS
    iapply (steps_ok n (s + 1) (by omega)) $$ [HS] [Hk]
    · isplitr; · iexact HR
      iexact HS
    · iexact Hk

/-! ## The last two credits -/

theorem two_credits : (iprop(cred (tallyAt (credCell c) 60 1) ∗ cred (tallyAt (credCell c) 61 1)) : sProp 𝕄)
    ⊢ cred (tallyOn (credCell c) (Finsupp.single 60 1 + Finsupp.single 61 1)) := by
  rw [tallyOn_add]
  exact (cred_add _ _).2

theorem owes_end : owedR c 62 + owedC c 62 = 0 := by rw [owedR_end, owedC_end, add_zero]

theorem last_credits :
    iprop(records m K KS ∗ credSt c 60 ∗ cred (tallyAt (credCell c) 60 1) ∗ cred (tallyAt (credCell c) 61 1) ∗ owing c (owedR c 62 + owedC c 62))
      ⊢ iprop((iprop(atPos ER (credCell c) 1 ∅ 0 ∗ owing c 0) -∗ WP c (k ⟨⟩) Q) -∗ WP c ((semWaitWord credS 2#32 : PR F PUnit) >>= k) Q) := by
  rw [owes_end]
  simp only [semWaitWord, Prog.lift, Prog.bind_op, Prog.bind_ret]
  unfold owing credSt
  iintro ⟨#HR, ⟨%T, %hT, Hat, -⟩, Hc, Hc', ⟨%W, HO⟩⟩ Hk
  iapply (Rounds.wp_wait_rest 𝒱₀ ER (ringRd m) (c : Thread nD τ) none (κ := K (c, 4))
      (wpE_semWait_eq 𝒱₀ (c : Thread nD τ) none Set.univ) (Set.mem_univ _) {(SemLoc.reg credS, 60), (SemLoc.reg credS, 61)} (O := 0) (W := W) (R := 0) (m := 60) (T := T)
      (cr := Finsupp.single 60 1 + Finsupp.single 61 1) (by rw [expect_cred]; rfl) (by rw [Util.total_add, Util.total_single, Util.total_single]; rfl) ?_) $$ [Hc Hc' HO Hat]
  · intro x hx
    obtain ⟨i, hi, rfl⟩ := Finset.mem_image.mp hx
    rcases Finset.mem_union.mp (Finsupp.support_add hi) with h | h
    · rw [Finset.mem_singleton.mp (Finsupp.support_single_subset h)]; exact Finset.mem_insert_self _ _
    · rw [Finset.mem_singleton.mp (Finsupp.support_single_subset h)]; exact Finset.mem_insert_of_mem (Finset.mem_singleton_self _)
  · isplitr; · iapply (inv_cred m K KS c); iexact HR
    isplitl [Hc Hc']
    · iapply (two_credits c)
      isplitl [Hc] <;> iassumption
    isplitl [HO]; · iexact HO
    isplitr; · rw [MayOwe_zero]; iempintro
    iexact Hat
  iintro ⟨HO, Hat, -, -⟩
  iapply Hk
  isplitl [Hat]; · iexact Hat
  iexists _; iexact HO

/-! ## The body -/

/-- What the body starts from. -/
def start : sProp 𝕄 :=
  iprop(has c pM (part m c) ∗ (∃ y, has c oM y) ∗ loc c ∗ owing c (owedR c 0 + owedC c 0) ∗ flow c 0)

/-- What it ends with. -/
def done : sProp 𝕄 :=
  iprop(has c pM (part m c) ∗ has c oM (out m) ∗ loc c ∗ owing c 0
    ∗ semVal (recvCell c 0) 0 ∗ semVal (recvCell c 1) 0 ∗ semVal (sendCell c 0) 0 ∗ semVal (sendCell c 1) 0 ∗ semVal (credCell c) 0)

/-- The copy of the partial product, and the first state. -/
theorem first_ok :
    iprop(records m K KS ∗ start m c)
      ⊢ iprop((iprop(has c pM (part m c) ∗ St m c 0) -∗ WP c (k ⟨⟩) Q) -∗ WP c ((runL c [.init, .waitInit] : PR F PUnit) >>= k) Q) := by
  simp only [runL, Op.prog, bind_assoc, pure_bind]
  unfold start loc
  iintro ⟨#HR, Hp, Ho, ⟨Ha, Ht, Hv0, Hv1⟩, HO, Hfl⟩ Hk
  ihave #Hlev := (the_levels m K KS) $$ HR
  iapply (start_copy c pM oM 0 (by decide) (part m c)) $$ [Hp Ho Hv0]
  · isplitl [Hp]; · iexact Hp
    isplitl [Ho] <;> iassumption
  iintro Hf
  iapply (wait_copy c pM oM 0 (part m c) 0 0) $$ [Hf HO]
  · isplitl [Hf]; · iexact Hf
    isplitl [HO]; · iexact HO
    iexact Hlev
  iintro ⟨Ho, Hp, Hv0, HO⟩
  iapply Hk
  isplitl [Hp]; · iexact Hp
  unfold St owing
  isplitl [Ho]; · iapply (take_apart c (part m c)) $$ Ho
  isplitl [Ha]; · iexact Ha
  isplitl [Ht]; · iexact Ht
  isplitl [Hv0]; · iexact Hv0
  isplitl [Hv1]; · iexact Hv1
  isplitl [HO]; · iexact HO
  iexact Hfl

/-- The end: the last credits, then every cell is closed. -/
theorem last_ok :
    iprop(records m K KS ∗ has c pM (part m c) ∗ St m c 62)
      ⊢ iprop((done m c -∗ WP c (k ⟨⟩) Q) -∗ WP c ((runL c [.waitLast] : PR F PUnit) >>= k) Q) := by
  simp only [runL, Op.prog, bind_assoc, pure_bind]
  unfold St flow pos
  rw [show 62 - 2 = 60 from rfl, creds_out c (by decide : 60 < 62), creds_out c (by decide : 60 + 1 < 62), show par 62 = 0 from rfl, show par (62 + 1) = 1 from rfl]
  iintro ⟨#HR, Hp, Hh, Ha, Ht, Hv0, Hv1, HO, ⟨⟨Hr0, -⟩, ⟨Hr1, -⟩⟩, ⟨⟨Hs0, -⟩, ⟨Hs1, -⟩⟩, -, Hcs, -, ⟨Hc, Hc', -⟩, -⟩ Hk
  iapply (last_credits m K KS c) $$ [Hcs Hc Hc' HO]
  · isplitr; · iexact HR
    isplitl [Hcs]; · iexact Hcs
    isplitl [Hc]; · iexact Hc
    isplitl [Hc']; · iexact Hc'
    iapply (owing_of c _) $$ HO
  iintro ⟨Hat, HO⟩
  imod (Rounds.cell_close ER (ringRd m) (Set.mem_univ (K (c, rIx 0))) (fun h => h) (R := 31) (recv_later m c 0)) $$ [Hr0] with Hr0
  · isplitr; · iapply (inv_recv m K KS c 0); iexact HR
    iexact Hr0
  imod (Rounds.cell_close ER (ringRd m) (Set.mem_univ (K (c, rIx 1))) (fun h => h) (R := 31) (recv_later m c 1)) $$ [Hr1] with Hr1
  · isplitr; · iapply (inv_recv m K KS c 1); iexact HR
    iexact Hr1
  imod (Rounds.cell_close ER (ringRd m) (Set.mem_univ (K (c, sIx 0))) (fun h => h) (R := 31) (send_later m c 0)) $$ [Hs0] with Hs0
  · isplitr; · iapply (inv_send m K KS c 0); iexact HR
    iexact Hs0
  imod (Rounds.cell_close ER (ringRd m) (Set.mem_univ (K (c, sIx 1))) (fun h => h) (R := 31) (send_later m c 1)) $$ [Hs1] with Hs1
  · isplitr; · iapply (inv_send m K KS c 1); iexact HR
    iexact Hs1
  imod (Rounds.cell_close ER (ringRd m) (Set.mem_univ (K (c, 4))) (fun h => h) (R := 1) (cred_later m c)) $$ [Hat] with Hat
  · isplitr; · iapply (inv_cred m K KS c); iexact HR
    iexact Hat
  iapply Hk
  unfold done loc
  isplitl [Hp]; · iexact Hp
  isplitl [Hh]; · iapply (put_together m c) $$ Hh
  isplitl [Ha Ht Hv0 Hv1]
  · isplitl [Ha]; · iexact Ha
    isplitl [Ht]; · iexact Ht
    isplitl [Hv0] <;> iassumption
  isplitl [HO]; · iexact HO
  isplitl [Hr0]; · iexact Hr0
  isplitl [Hr1]; · iexact Hr1
  isplitl [Hs0]; · iexact Hs0
  isplitl [Hs1]; · iexact Hs1
  iexact Hat

/-- The body's list, run. -/
theorem body_ok :
    iprop(records m K KS ∗ start m c) ⊢ iprop((done m c -∗ WP c (k ⟨⟩) Q) -∗ WP c ((runL c body : PR F PUnit) >>= k) Q) := by
  unfold body
  rw [runL_append, runL_append, bind_assoc, bind_assoc, List.range_eq_range']
  iintro ⟨#HR, HS⟩ Hk
  iapply (first_ok m K KS c) $$ [HS]
  · isplitr; · iexact HR
    iexact HS
  iintro ⟨Hp, HS⟩
  iapply (steps_ok m K KS c 62 0 rfl) $$ [HS]
  · isplitr; · iexact HR
    iexact HS
  iintro HS
  iapply (last_ok m K KS c) $$ [Hp HS] [Hk]
  · isplitr; · iexact HR
    isplitl [Hp] <;> iassumption
  · iexact Hk

end Cert.KernelIdeal.Ring

end
-- ==== Proof.Deal.lean ====
module

public import proofs.«01_k».proof.Proof.Whole
public import Idealize.ShloMosaic.Lib.Pipeline.Kit

@[expose] public section

/-! # What the launch deals

At launch the memory and the counters of all the devices are at hand together. The counters of the ring's cells go into their
invariants; each device's two landing slots go to its left neighbour, which writes them first; the tokens go to whoever pays with
them. What device `c` has then is `given m c`. -/

noncomputable section

namespace Cert.KernelIdeal.Ring

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## The launch element -/

theorem kcell_injective : Function.Injective kcell := by
  rintro ⟨c, k⟩ ⟨c', k'⟩ h
  have h1 : c = c' := congrArg (fun g : GSem nD τ sig => g.1.1) h
  have h2 : osem k = osem k' := congrArg Prod.snd h
  have inj : ∀ k k' : Fin 5, osem k = osem k' → k = k' := by decide
  rw [h1, inj k k' h2]

def ringCells : Finset (GSem nD τ sig) := Finset.univ.map ⟨kcell, kcell_injective⟩

/-- The token of step `k` on one of device `c`'s cells: of the landing, of the sending, of the credit. -/
def tokOf (x : Dev nD × (Fin 3 × Fin 62)) : GSem nD τ sig × ℕ × ℕ := match x.2.1 with
  | 0 => (recvCell x.1 (par x.2.2.val), x.2.2.val / 2, 0)
  | 1 => (sendCell x.1 (par x.2.2.val), x.2.2.val / 2, 0)
  | 2 => (credCell x.1, 0, x.2.2.val)

theorem half_par {k k' : ℕ} (h : par k = par k') (h' : k / 2 = k' / 2) : k = k' := by
  have : k % 2 = k' % 2 := congrArg Fin.val h
  omega

theorem tokOf_injective : Function.Injective tokOf := by
  have recv_inj : ∀ b b' : Fin 2, (SemLoc.dma (recvS b) : SemLoc sig) = .dma (recvS b') → b = b' := by decide
  have send_inj : ∀ b b' : Fin 2, (SemLoc.dma (sendS b) : SemLoc sig) = .dma (sendS b') → b = b' := by decide
  have recv_send : ∀ b b' : Fin 2, (SemLoc.dma (recvS b) : SemLoc sig) ≠ .dma (sendS b') := by decide
  rintro ⟨c, j, k⟩ ⟨c', j', k'⟩ h
  have hc : c = c' := by
    have := congrArg (fun x : GSem nD τ sig × ℕ × ℕ => x.1.1.1) h
    fin_cases j <;> fin_cases j' <;> exact this
  have hs := congrArg (fun x : GSem nD τ sig × ℕ × ℕ => x.1.2) h
  have hr := congrArg (fun x : GSem nD τ sig × ℕ × ℕ => x.2.1) h
  have hd := congrArg (fun x : GSem nD τ sig × ℕ × ℕ => x.2.2) h
  subst hc
  fin_cases j <;> fin_cases j'
  · have hk : k = k' := Fin.ext (half_par (recv_inj _ _ hs) hr)
    rw [hk]
  · exact absurd hs (recv_send _ _)
  · cases hs
  · exact absurd hs.symm (recv_send _ _)
  · have hk : k = k' := Fin.ext (half_par (send_inj _ _ hs) hr)
    rw [hk]
  · cases hs
  · cases hs
  · cases hs
  · have hk : k = k' := Fin.ext hd
    rw [hk]

def ringToks : Finset (GSem nD τ sig × ℕ × ℕ) := Finset.univ.map ⟨tokOf, tokOf_injective⟩

/-- What the proof brings into the launch: the pipeline's part, the ring's cells and tokens, the slots' invariants and 30 later writes of each. -/
def u₀ : UU :=
  (initOf (Pipeline.cells cfgs cellOf_inj) (Pipeline.launchToks cfgs cellOf_inj),
    (initOf ringCells ringToks, (initSlots Finset.univ 30, 1)))

theorem u₀_split : (ownU u₀ : sProp 𝕄) ⊢ iprop(BI.own (EP (initOf (Pipeline.cells cfgs cellOf_inj) (Pipeline.launchToks cfgs cellOf_inj)))
    ∗ BI.own (ER (initOf ringCells ringToks)) ∗ BI.own (ES (initSlots Finset.univ 30))) := by
  refine BIBase.Entails.trans (own_pair_emb uE _ _) (BI.sep_mono (BI.Entails.refl _) ?_)
  refine BIBase.Entails.trans (own_pair_emb _ _ _) (BI.sep_mono (BI.Entails.refl _) ?_)
  refine BIBase.Entails.trans (own_pair_emb _ _ _) ?_
  iintro ⟨H, -⟩; iexact H

/-! ## Counting steps in two ways -/

theorem over_steps (Φ : ℕ → sProp 𝕄) : (bigSep Finset.univ fun k : Fin 62 => Φ k.val) = bigSep (Finset.Ico 0 62) Φ := by
  rw [show Finset.Ico 0 62 = (Finset.univ : Finset (Fin 62)).map Fin.valEmbedding by decide, bigSep_map]; rfl

/-- Step `2 (t + 1) + b` writes slot `b` for the `t + 1`-st time after the first. -/
def laterStep : Fin 2 × Fin 30 ↪ ℕ := ⟨fun x => 2 * (x.2.val + 1) + x.1.val, by
  rintro ⟨b, t⟩ ⟨b', t'⟩ h
  have h : 2 * (t.val + 1) + b.val = 2 * (t'.val + 1) + b'.val := h
  have := b.isLt; have := b'.isLt
  rw [show b = b' from Fin.ext (by omega), show t = t' from Fin.ext (by omega)]⟩

theorem over_later (Φ : ℕ → sProp 𝕄) : (bigSep Finset.univ fun x : Fin 2 × Fin 30 => Φ (laterStep x)) = bigSep (Finset.Ico 2 62) Φ := by
  rw [show Finset.Ico 2 62 = (Finset.univ : Finset (Fin 2 × Fin 30)).map laterStep by decide, bigSep_map]

theorem par_later (x : Fin 2 × Fin 30) : par (laterStep x) = x.1 := Fin.ext (by
  show (2 * (x.2.val + 1) + x.1.val) % 2 = x.1.val
  have := x.1.isLt; omega)
theorem half_later (x : Fin 2 × Fin 30) : laterStep x / 2 = x.2.val + 1 := by
  show (2 * (x.2.val + 1) + x.1.val) / 2 = _
  have := x.1.isLt; omega

theorem pairs_eq : ((Finset.univ : Finset (Dev nD × Fin 2)) ×ˢ Finset.range 30)
    = (Finset.univ : Finset ((Dev nD × Fin 2) × Fin 30)).map ((Function.Embedding.refl _).prodMap Fin.valEmbedding) := by
  ext ⟨k, t⟩
  simp only [Finset.mem_product, Finset.mem_univ, true_and, Finset.mem_range, Finset.mem_map]
  refine ⟨fun h => ⟨(k, ⟨t, h⟩), rfl⟩, ?_⟩
  rintro ⟨⟨k', t'⟩, h⟩
  rw [← show t'.val = t from congrArg Prod.snd h]
  exact t'.isLt

/-- The tokens of the later writes, by the device whose slots they write and by the step. -/
theorem write_toks :
    (bigSep ((Finset.univ : Finset (Dev nD × Fin 2)) ×ˢ Finset.range 30) fun x => (writeTok ES x.1 (x.2 + 1) : sProp 𝕄))
      = bigSep Finset.univ fun c : Dev nD => bigSep (Finset.Ico 2 62) fun k => writeTok ES (c, par k) (k / 2) := by
  rw [pairs_eq, bigSep_map, bigSep_univ_prod, bigSep_univ_prod]
  refine bigSep_congr fun c _ => ?_
  rw [← over_later, bigSep_univ_prod]
  refine bigSep_congr fun b _ => bigSep_congr fun t _ => ?_
  rw [par_later, half_later]; rfl

omit [FloatOps F] in
theorem bigSep_fin2 (Φ : Fin 2 → sProp 𝕄) : bigSep Finset.univ Φ = iprop(Φ 0 ∗ Φ 1) := bigSep_univ_eq_bigSepL [0, 1] (by decide) (by decide) Φ
omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

/-- The ring's tokens, likewise. -/
theorem ring_toks :
    bigSep ringToks (fun x => (dutyTok ER x.1 x.2.1 x.2.2 : sProp 𝕄))
      = bigSep Finset.univ fun c : Dev nD => iprop(
          (bigSep (Finset.Ico 0 62) fun k => dutyTok ER (recvCell c (par k)) (k / 2) 0)
          ∗ (bigSep (Finset.Ico 0 62) fun k => dutyTok ER (sendCell c (par k)) (k / 2) 0)
          ∗ bigSep (Finset.Ico 0 62) fun k => dutyTok ER (credCell c) 0 k) := by
  unfold ringToks
  rw [bigSep_map, bigSep_univ_prod]
  refine bigSep_congr fun c _ => ?_
  rw [bigSep_univ_prod, bigSep_fin3, ← over_steps, ← over_steps, ← over_steps]
  exact congrArg₂ _ (bigSep_congr fun _ _ => rfl) (congrArg₂ _ (bigSep_congr fun _ _ => rfl) (bigSep_congr fun _ _ => rfl))

/-! ## The launch credits -/

/-- What device `c` owes from the start. -/
abbrev owed₀ (c : Dev nD) : CellTallies nD τ sig ℕ := owedR c 0 + owedC c 0

theorem launch_creds (c : Dev nD) :
    (Pipeline.launchCred owed₀ c : sProp 𝕄) ⊢ iprop((bigSep (Finset.Ico 0 62) fun k => cred (tallyAt (recvCell c (par k)) k N))
      ∗ bigSep (Finset.Ico 0 62) fun k => cred (tallyAt (credCell c) k 1)) := by
  show (Pipeline.launchCred (fun d => owedR d 0 + owedC d 0) c : sProp 𝕄) ⊢ _
  rw [Pipeline.launchCred_add]
  unfold owedR owedC
  rw [Pipeline.launchCred_sum, Pipeline.launchCred_sum]
  exact BI.sep_mono
    (bigSep_mono fun k _ => Pipeline.launchCred_tallyAt (.dma (recvS (par k))) nxt prv nxt_prv prv_nxt k N c)
    (bigSep_mono fun k _ => Pipeline.launchCred_tallyAt (.reg credS) prv nxt prv_nxt nxt_prv k 1 c)

/-! ## The slots -/

theorem slot_set (b : Fin 2) : (slot b).view.set = (Rect.unit (s := S2x128x8192) ![b.val, 0, 0] S1x128x8192.size (inb_slot b)).set := by
  show (((View.whole main_v1_1).slice _).reshape _ _).set = _
  rw [View.set_reshape, View.set_slice_whole]

theorem slots_disjoint : ∀ b b' : Fin 2, b ≠ b' → Disjoint (slot b).view.set (slot b').view.set := fun b b' h => by
  rw [slot_set, slot_set]
  exact Idealize.ShloMosaic.Ring.lead_disjoint (s := S2x128x8192) (0 : Fin 3) 1 (fun b : Fin 2 => ![b.val, 0, 0]) S1x128x8192.size inb_slot
    (fun b => (Nat.one_mul b.val).symm) rfl b b' h

theorem slots_cover : Finset.biUnion (β := S2x128x8192.Idx) Finset.univ (fun b : Fin 2 => (slot b).view.set) = Finset.univ := by
  refine Eq.trans (congrArg (Finset.biUnion (β := S2x128x8192.Idx) Finset.univ) (show (fun b : Fin 2 => (slot b).view.set) = fun b : Fin 2 => (Rect.unit (s := S2x128x8192) ![b.val, 0, 0] S1x128x8192.size (inb_slot b)).set from funext slot_set)) ?_
  exact Idealize.ShloMosaic.Ring.lead_cover (s := S2x128x8192) (0 : Fin 3) 1 (fun b : Fin 2 => ![b.val, 0, 0]) S1x128x8192.size inb_slot
    (fun b => (Nat.one_mul b.val).symm) (fun b a ha => by fin_cases a <;> [exact absurd rfl ha; rfl; rfl]) rfl
    (fun a ha => by fin_cases a <;> [exact absurd rfl ha; rfl; rfl]) rfl

/-- A device's receive buffer is its two landing slots. -/
theorem buffer_slots (c : Dev nD) (f : Buf (Elt F) ((c : Thread nD τ).loc main_v1_1)) :
    ((((c : Thread nD τ).loc main_v1_1) ↦{fullShare} f) : sProp 𝕄) ⊢ bigSep Finset.univ fun b : Fin 2 => anySlot (c, b) := by
  rw [Idealize.ShloMosaic.Ring.pointsTo_blocks (ℓ := (c : Thread nD τ).loc main_v1_1) (fun b : Fin 2 => (slot b).view.set) slots_disjoint slots_cover f]
  refine bigSep_mono fun b _ => (show _ ⊢ (_ : sProp 𝕄) from ?_)
  unfold anySlot Release.slot
  iintro H; iexists f; iexact H

/-- What the steps of device `c` write its neighbour's slots by. -/
theorem writes_eq (c : Dev nD) : (bigSep (Finset.Ico 0 62) fun k => wr (F := F) c k)
    = iprop((bigSep Finset.univ fun b : Fin 2 => anySlot (nxt c, b)) ∗ bigSep (Finset.Ico 2 62) fun k => writeTok ES (nxt c, par k) (k / 2)) := by
  rw [bigSep_Ico_succ_bot (by decide), bigSep_Ico_succ_bot (by decide), bigSep_fin2, wr_early c (by decide : 0 < 2), wr_early c (by decide : 0 + 1 < 2),
    bigSep_congr (s := Finset.Ico (0 + 1 + 1) 62) (fun k hk => (show wr (F := F) c k = writeTok ES (nxt c, par k) (k / 2) from if_neg (by have := (Finset.mem_Ico.mp hk).1; omega)))]
  show iprop(anySlot (nxt c, 0) ∗ anySlot (nxt c, 1) ∗ _) = _
  exact BI.Entails.antisymm BI.sep_assoc' BI.sep_assoc

/-! ## The dealing -/

/-- What device `c` has when it starts, but for what it owes and its VMEM buffers. -/
def given (c : Dev nD) : sProp 𝕄 :=
  iprop(∃ K KS, records m K KS ∗ has c pM (part m c) ∗ (∃ y, has c oM y)
    ∗ (semVal ((c : Thread nD τ), .dma (locS 0)) 0 ∗ semVal ((c : Thread nD τ), .dma (locS 1)) 0) ∗ flow c 0)

/-- What the machine gives for device `c`. -/
def raw (c : Dev nD) : sProp 𝕄 :=
  iprop(Pipeline.ownSems0 asem c ∗ unscopedBufs c (fun b => m ((c : Thread nD τ).loc b)) ∗ Pipeline.launchCred owed₀ c)

/-- The part of it device `c` keeps. -/
def kept (c : Dev nD) : sProp 𝕄 :=
  iprop(has c pM (part m c) ∗ (∃ y, has c oM y)
    ∗ (semVal ((c : Thread nD τ), .dma (locS 0)) 0 ∗ semVal ((c : Thread nD τ), .dma (locS 1)) 0)
    ∗ (bigSep (Finset.Ico 0 62) fun k => cred (tallyAt (recvCell c (par k)) k N))
    ∗ bigSep (Finset.Ico 0 62) fun k => cred (tallyAt (credCell c) k 1))

theorem ownSems_eq (c : Dev nD) : (Pipeline.ownSems0 asem c : sProp 𝕄)
    = iprop(semVal (recvCell c 0) 0 ∗ semVal (recvCell c 1) 0 ∗ semVal (sendCell c 0) 0 ∗ semVal (sendCell c 1) 0 ∗ semVal (credCell c) 0
      ∗ semVal ((c : Thread nD τ), .dma (locS 0)) 0 ∗ semVal ((c : Thread nD τ), .dma (locS 1)) 0) :=
  Pipeline.ownSems0_eq_of_list c asem [0, 1, 2, 3, 4, 5, 6] (by decide) (by decide)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem unscoped_eq (c : Dev nD) (V : (b : Ref sig .tc) → Buf (Elt F) ((c : Thread nD τ).loc b)) : (unscopedBufs c V : sProp 𝕄)
    = iprop((((c : Thread nD τ).loc main_arg0) ↦{fullShare} V main_arg0) ∗ (((c : Thread nD τ).loc main_v1_0) ↦{fullShare} V main_v1_0)
      ∗ (((c : Thread nD τ).loc main_v1_1) ↦{fullShare} V main_v1_1)) :=
  bigSep_eq_bigSepL_of_eq [main_arg0, main_v1_0, main_v1_1] (by decide) (by decide) _

/-- The points-to of a whole buffer, as the body holds it. -/
theorem whole_has (c : Dev nD) (b : Ref sig .tc) (f : b.ty.Contents (Elt F)) :
    ((((c : Thread nD τ).loc b) ↦{fullShare} f) : sProp 𝕄) ⊢ owns (c : Thread nD τ) (Memref.whole b) fullShare f := by
  rw [owns_whole]

theorem raw_split (c : Dev nD) : raw m c ⊢ iprop((bigSep Finset.univ fun k : Fin 5 => semVal (kcell (c, k)) 0)
    ∗ (bigSep Finset.univ fun b : Fin 2 => anySlot (c, b)) ∗ kept m c) := by
  unfold raw kept
  rw [ownSems_eq, unscoped_eq, bigSep_fin5]
  iintro ⟨⟨H0, H1, H2, H3, H4, H5, H6⟩, ⟨Hp, Ho, Hr⟩, Hc⟩
  ihave Hc := (launch_creds c) $$ Hc
  icases Hc with ⟨Hc1, Hc2⟩
  isplitl [H0 H1 H2 H3 H4]
  · isplitl [H0]; · iexact H0
    isplitl [H1]; · iexact H1
    isplitl [H2]; · iexact H2
    isplitl [H3]; · iexact H3
    iexact H4
  isplitl [Hr]; · iapply (buffer_slots c _) $$ Hr
  isplitl [Hp]; · iapply (whole_has c main_arg0 _) $$ Hp
  isplitl [Ho]
  · iexists (m ((c : Thread nD τ).loc main_v1_0))
    iapply (whole_has c main_v1_0 _) $$ Ho
  isplitl [H5 H6]
  · isplitl [H5] <;> iassumption
  isplitl [Hc1]; · iexact Hc1
  iexact Hc2

/-- What is dealt to device `c` beside what it keeps: its positions, its slots' readings, and what its steps pay with. -/
def dealt (c : Dev nD) : sProp 𝕄 :=
  iprop((bigSep Finset.univ fun k : Fin 5 => atPos ER (kcell (c, k)) 0 ∅ 0)
    ∗ (bigSep Finset.univ fun b : Fin 2 => readerAt ES (c, b) 0)
    ∗ (bigSep (Finset.Ico 0 62) fun k => wr c k)
    ∗ (bigSep (Finset.Ico 0 62) fun k => dutyTok ER (recvCell (nxt c) (par k)) (k / 2) 0)
    ∗ (bigSep (Finset.Ico 0 62) fun k => dutyTok ER (sendCell c (par k)) (k / 2) 0)
    ∗ (bigSep (Finset.Ico 0 62) fun k => dutyTok ER (credCell (prv c)) 0 k))

theorem reached_at (ck : Dev nD × Fin 5) :
    (bigSep Finset.univ fun ck : Dev nD × Fin 5 => (reached ER (kcell ck) 0 : sProp 𝕄)) ⊢ reached ER (kcell ck) 0 :=
  bigSep_elim (Finset.mem_univ ck)

theorem cred_start (c : Dev nD) : (atPos ER (credCell c) 0 ∅ 0 : sProp 𝕄) ⊢ credSt c 0 := by
  unfold credSt
  iintro H
  iexists ∅
  isplitr; · ipureintro; exact ⟨Nat.le_refl 0, Finset.empty_subset _⟩
  isplitl [H]; · iexact H
  rw [bigSep_empty]
  iempintro

theorem pays_eq (c : Dev nD) : (bigSep (Finset.Ico 0 62) fun k => pays (F := F) c k)
    = iprop((bigSep (Finset.Ico 0 62) fun k => wr c k)
      ∗ (bigSep (Finset.Ico 0 62) fun k => dutyTok ER (recvCell (nxt c) (par k)) (k / 2) 0)
      ∗ (bigSep (Finset.Ico 0 62) fun k => dutyTok ER (sendCell c (par k)) (k / 2) 0)
      ∗ (bigSep (Finset.Ico 0 62) fun k => dutyTok ER (credCell (prv c)) 0 k)
      ∗ bigSep (Finset.Ico 0 62) fun k => cred (tallyAt (recvCell c (par k)) k N)) := by
  unfold pays
  rw [bigSep_sep', bigSep_sep', bigSep_sep', bigSep_sep']

theorem given_intro (K : Dev nD × Fin 5 → ℕ) (KS : Dev nD × Fin 2 → ℕ) (c : Dev nD) :
    iprop(records m K KS ∗ kept m c ∗ dealt c) ⊢ given m c := by
  unfold kept dealt given flow pos
  rw [pays_eq, bigSep_fin5, bigSep_fin2, show par 0 = 0 from rfl, show par (0 + 1) = 1 from rfl, Finset.range_zero, bigSep_empty]
  iintro ⟨#HR, ⟨Hp, Ho, Hv, Hc1, Hc2⟩, ⟨Hr0, Hr1, Hs0, Hs1, Hcr⟩, ⟨Hd0, Hd1⟩, Hw, Ht1, Ht2, Ht3⟩
  ihave Hre := (show records m K KS ⊢ bigSep Finset.univ fun ck : Dev nD × Fin 5 => (reached ER (kcell ck) 0 : sProp 𝕄) from by
    unfold records; iintro ⟨-, -, H, -⟩; iexact H) $$ HR
  icases Hre with #Hre
  iexists K; iexists KS
  isplitr; · iexact HR
  isplitl [Hp]; · iexact Hp
  isplitl [Ho]; · iexact Ho
  isplitl [Hv]; · iexact Hv
  isplitl [Hr0 Hr1]
  · isplitl [Hr0]
    · isplitl [Hr0]; · iexact Hr0
      iapply (reached_at (c, 0)) $$ Hre
    · isplitl [Hr1]; · iexact Hr1
      iapply (reached_at (c, 1)) $$ Hre
  isplitl [Hs0 Hs1]
  · isplitl [Hs0]
    · isplitl [Hs0]; · iexact Hs0
      iapply (reached_at (c, 2)) $$ Hre
    · isplitl [Hs1]; · iexact Hs1
      iapply (reached_at (c, 3)) $$ Hre
  isplitl [Hd0 Hd1]
  · isplitl [Hd0]; · iexact Hd0
    iexact Hd1
  isplitl [Hcr]; · iapply (cred_start c) $$ Hcr
  isplitl [Hw Ht1 Ht2 Ht3 Hc1]
  · isplitl [Hw]; · iexact Hw
    isplitl [Ht1]; · iexact Ht1
    isplitl [Ht2]; · iexact Ht2
    isplitl [Ht3]; · iexact Ht3
    iexact Hc1
  isplitl [Hc2]; · iexact Hc2
  iempintro

/-- The tokens and the slots sent around the ring to those who pay with them. -/
theorem around :
    iprop((bigSep Finset.univ fun c : Dev nD => bigSep Finset.univ fun k : Fin 5 => atPos ER (kcell (c, k)) 0 ∅ 0)
        ∗ (bigSep Finset.univ fun c : Dev nD => bigSep Finset.univ fun b : Fin 2 => readerAt ES (c, b) 0)
        ∗ (bigSep Finset.univ fun c : Dev nD => bigSep Finset.univ fun b : Fin 2 => anySlot (c, b))
        ∗ (bigSep Finset.univ fun c : Dev nD => bigSep (Finset.Ico 2 62) fun k => writeTok ES (c, par k) (k / 2))
        ∗ (bigSep Finset.univ fun c : Dev nD => bigSep (Finset.Ico 0 62) fun k => dutyTok ER (recvCell c (par k)) (k / 2) 0)
        ∗ (bigSep Finset.univ fun c : Dev nD => bigSep (Finset.Ico 0 62) fun k => dutyTok ER (sendCell c (par k)) (k / 2) 0)
        ∗ (bigSep Finset.univ fun c : Dev nD => bigSep (Finset.Ico 0 62) fun k => dutyTok ER (credCell c) 0 k))
      ⊢ (bigSep Finset.univ fun c : Dev nD => dealt c : sProp 𝕄) := by
  unfold dealt
  rw [bigSep_congr (s := Finset.univ) (fun (c : Dev nD) _ => congrArg (BIBase.sep _) (congrArg (BIBase.sep _) (congrArg (fun P => BIBase.sep P _) (writes_eq c)))),
    bigSep_sep', bigSep_sep', bigSep_sep', bigSep_sep', bigSep_sep', bigSep_sep',
    bigSep_univ_equiv ring (fun c : Dev nD => (bigSep Finset.univ fun b : Fin 2 => anySlot (c, b) : sProp 𝕄)),
    bigSep_univ_equiv ring (fun c : Dev nD => (bigSep (Finset.Ico 2 62) fun k => writeTok ES (c, par k) (k / 2) : sProp 𝕄)),
    bigSep_univ_equiv ring (fun c : Dev nD => (bigSep (Finset.Ico 0 62) fun k => dutyTok ER (recvCell c (par k)) (k / 2) 0 : sProp 𝕄)),
    bigSep_univ_equiv ring.symm (fun c : Dev nD => (bigSep (Finset.Ico 0 62) fun k => dutyTok ER (credCell c) 0 k : sProp 𝕄))]
  iintro ⟨H1, H2, H3, H4, H5, H6, H7⟩
  isplitl [H1]; · iexact H1
  isplitl [H2]; · iexact H2
  isplitl [H3 H4]
  · isplitl [H3]; · iexact H3
    iexact H4
  isplitl [H5]; · iexact H5
  isplitl [H6]; · iexact H6
  iexact H7

/-- A persistent fact goes to every member. -/
theorem bigSep_with {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The cells' invariants, from their counters and their first rounds. -/
theorem cells_alloc :
    iprop((bigSep Finset.univ fun ck : Dev nD × Fin 5 => semVal (kcell ck) 0) ∗ bigSep Finset.univ fun ck : Dev nD × Fin 5 => roundState ER (ringRd m) (kcell ck) 0)
      ⊢ (|={Set.univ}=> iprop(∃ K : Dev nD × Fin 5 → ℕ, bigSep Finset.univ fun ck => cellInv ER (ringRd m) (K ck) (kcell ck)) : sProp 𝕄) := by
  rw [← bigSep_sep']
  exact ((bigSep_mono fun ck _ => (Rounds.body_intro ER (ringRd m) (kcell ck)).trans inv_alloc).trans (bigSep_fupd _ _)).trans
    (BI.fupd_mono (BI.bigSep_exists_pi Finset.univ (fun (ck : Dev nD × Fin 5) (κ : ℕ) => (cellInv ER (ringRd m) κ (kcell ck) : sProp 𝕄))))

theorem deal :
    iprop((bigSep Finset.univ fun c : Dev nD => raw m c) ∗ levAts L lv ∗ BI.own (ER (initOf ringCells ringToks)) ∗ BI.own (ES (initSlots Finset.univ 30)))
      ⊢ (|={Set.univ}=> bigSep Finset.univ fun c : Dev nD => given m c : sProp 𝕄) := by
  have hcells (Φ : GSem nD τ sig → sProp 𝕄) : bigSep ringCells Φ = bigSep Finset.univ fun ck : Dev nD × Fin 5 => Φ (kcell ck) := by
    unfold ringCells; rw [bigSep_map]; rfl
  have hraw : (bigSep Finset.univ fun c : Dev nD => raw m c) ⊢ iprop((bigSep Finset.univ fun ck : Dev nD × Fin 5 => semVal (kcell ck) 0)
      ∗ (bigSep Finset.univ fun c : Dev nD => bigSep Finset.univ fun b : Fin 2 => anySlot (c, b)) ∗ bigSep Finset.univ fun c : Dev nD => kept m c) := by
    rw [bigSep_univ_prod (fun ck : Dev nD × Fin 5 => (semVal (kcell ck) 0 : sProp 𝕄)), ← bigSep_sep', ← bigSep_sep']
    exact bigSep_mono fun c _ => raw_split m c
  have hend (K : Dev nD × Fin 5 → ℕ) (KS : Dev nD × Fin 2 → ℕ) :
      iprop(records m K KS ∗ (bigSep Finset.univ fun c : Dev nD => kept m c) ∗ bigSep Finset.univ fun c : Dev nD => dealt c) ⊢ (bigSep Finset.univ fun c : Dev nD => given m c : sProp 𝕄) := by
    rw [← bigSep_sep']
    exact bigSep_with fun c => given_intro m K KS c
  iintro ⟨Hraw, #Hlev, HR, HS⟩
  ihave Hraw := hraw $$ Hraw
  icases Hraw with ⟨Hsem, Hslots, Hkept⟩
  imod (Rounds.fund ER (ringRd m) ringCells ringToks) $$ HR with ⟨Hst, Hre, Hat, Htok⟩
  imod (slots_init ES Finset.univ 30 (fun k => anySlot (F := F) k)) $$ HS with ⟨%KS, -, #HSI, Hrd, Hwt⟩
  ihave Hst := (Entails.of_eq (hcells fun g => roundState ER (ringRd m) g 0)) $$ Hst
  imod (cells_alloc m) $$ [Hsem Hst] with ⟨%K, #HCI⟩
  · isplitl [Hsem] <;> iassumption
  imodintro
  ihave Hre := (Entails.of_eq (hcells fun g => reached ER g 0)) $$ Hre
  icases Hre with #Hre
  ihave Hat := (Entails.of_eq ((hcells fun g => atPos ER g 0 ∅ 0).trans (bigSep_univ_prod _))) $$ Hat
  ihave Hrd := (Entails.of_eq (bigSep_univ_prod (fun k : Dev nD × Fin 2 => (readerAt ES k 0 : sProp 𝕄)))) $$ Hrd
  ihave Hwt := (Entails.of_eq write_toks) $$ Hwt
  ihave Htok := (Entails.of_eq (ring_toks.trans ((bigSep_sep' _ _ _).trans (congrArg (BIBase.sep _) (bigSep_sep' _ _ _))))) $$ Htok
  icases Htok with ⟨Ht1, Ht2, Ht3⟩
  iapply (hend K KS)
  isplitr
  · unfold records lvs
    isplitr; · iexact HCI
    isplitr; · iexact HSI
    isplitr; · iexact Hre
    iexact Hlev
  isplitl [Hkept]; · iexact Hkept
  iapply around
  isplitl [Hat]; · iexact Hat
  isplitl [Hrd]; · iexact Hrd
  isplitl [Hslots]; · iexact Hslots
  isplitl [Hwt]; · iexact Hwt
  isplitl [Ht1]; · iexact Ht1
  isplitl [Ht2]; · iexact Ht2
  iexact Ht3

end Cert.KernelIdeal.Ring

end
-- ==== Proof.Launch.lean ====
module

public import proofs.«01_k».proof.Proof.Deal
public import Idealize.ShloMosaic.Lib.Quiescent

@[expose] public section

/-! # The run of the whole machine

The body on each device, under the launch: what the machine starts from is dealt out (`deal`), each device runs its region, and
what the devices are left with is read against the final memory and counters. -/

noncomputable section

namespace Cert.KernelIdeal.Ring

open Idealize.ShloMosaic Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

variable {F : FTy → Type} [FloatOps F]

local notation "𝕄" => MT nD τ sig ℕ (Elt F) ℕ UU ℕ

variable (m : (ℓ : Loc nD τ sig) → Buf (Elt F) ℓ)

/-! ## The region's data -/

/-- What device `c` holds when its body begins, but for what it owes. -/
def before (c : Dev nD) : sProp 𝕄 := iprop(given m c ∗ (∃ a, has c accM a) ∗ (∃ a, has c tmpM a))

/-- What it holds when its body ends, but for what it owes. -/
def left (c : Dev nD) : sProp 𝕄 :=
  iprop(has c pM (part m c) ∗ has c oM (out m) ∗ loc c
    ∗ semVal (recvCell c 0) 0 ∗ semVal (recvCell c 1) 0 ∗ semVal (sendCell c 0) 0 ∗ semVal (sendCell c 1) 0 ∗ semVal (credCell c) 0)

/-- The region has no windows and one point. -/
def dats (_ : Fin 1) (c : Dev nD) : Pipeline.Dat τ (Elt F) ℕ ℕ UU ℕ cfg0 c where
  A := fun w => w.elim0
  after := fun w _ => w.elim0
  Φ := fun t => match t with
    | ⟨0, _⟩ => before m c
    | ⟨_ + 1, _⟩ => left m c
  q := fun _ => fullShare
  owed := fun t => match t with
    | ⟨0, _⟩ => owed₀ c
    | ⟨_ + 1, _⟩ => 0

theorem before_start (c : Dev nD) (O : CellTallies nD τ sig ℕ) (h : O = owed₀ c) :
    iprop(before m c ∗ ∃ W, owes (c : Thread nD τ) O W) ⊢ ∃ K KS, iprop(records m K KS ∗ start m c) := by
  subst h
  unfold before given start loc
  iintro ⟨⟨⟨%K, %KS, HR, Hp, Ho, ⟨Hl0, Hl1⟩, Hf⟩, Ha, Ht⟩, HO⟩
  iexists K, KS
  isplitl [HR]; · iexact HR
  isplitl [Hp]; · iexact Hp
  isplitl [Ho]; · iexact Ho
  isplitl [Ha Ht Hl0 Hl1]
  · isplitl [Ha]; · iexact Ha
    isplitl [Ht]; · iexact Ht
    isplitl [Hl0]; · iexact Hl0
    iexact Hl1
  isplitl [HO]; · iapply (owing_of c _) $$ HO
  iexact Hf

theorem owing_def (c : Dev nD) (O : CellTallies nD τ sig ℕ) : (owing c O : sProp 𝕄) ⊢ iprop(∃ W, owes (c : Thread nD τ) O W) := .rfl

theorem done_left (c : Dev nD) : done m c ⊢ iprop(left m c ∗ ∃ W, owes (c : Thread nD τ) 0 W) := by
  unfold done left
  iintro ⟨Hp, Ho, Hl, HO, H⟩
  isplitl [Hp Ho Hl H]
  · isplitl [Hp]; · iexact Hp
    isplitl [Ho]; · iexact Ho
    isplitl [Hl]; · iexact Hl
    iexact H
  iapply (owing_def c 0) $$ HO

/-- The body, from what the region hands it to what it hands back. -/
theorem region_ok (c : Dev nD) (B : Set (SemLoc sig × ℕ)) (hB : B = Set.univ) :
    iprop(before m c ∗ Pipeline.owesWithin c (owed₀ c) B)
      ⊢ WP c (cc0__allreduce_body (F := F) (Memref.whole main_arg0) (Memref.isWhole_whole _) (Memref.whole main_v1_0) (Memref.isWhole_whole _)
          (Memref.whole main_v1_1) (Memref.isWhole_whole _) (Memref.whole cc0_scratch0) (Memref.isWhole_whole _) (Memref.whole cc0_scratch1) (Memref.isWhole_whole _)
          cc0_scratch2 cc0_scratch3 cc0_scratch4 cc0_scratch5)
        fun _ => iprop(left m c ∗ Pipeline.owesWithin c 0 B) := by
  subst hB
  unfold WP
  rw [body_eq, show ((Prog.lift .deviceId : PR F (Dev nD)) >>= fun d => runL d body)
    = .op .deviceId (fun d => runL d body) from rfl, wp_deviceId, show (runL c body : PR F PUnit) = (runL c body >>= fun _ => .ret ⟨⟩) from (bind_pure _).symm]
  unfold Pipeline.owesWithin
  iintro ⟨Hb, ⟨%W, -, HO⟩⟩
  ihave H := (before_start m c _ rfl) $$ [Hb HO]
  · isplitl [Hb]; · iexact Hb
    iexists W; iexact HO
  icases H with ⟨%K, %KS, HR, HS⟩
  iapply (body_ok m K KS c) $$ [HR HS]
  · isplitl [HR] <;> iassumption
  iintro Hd
  unfold WP
  rw [wp_ret]
  imodintro
  ihave H := (done_left m c) $$ Hd
  icases H with ⟨Hl, ⟨%W', HO⟩⟩
  isplitl [Hl]; · iexact Hl
  iexists W'
  isplitr; · ipureintro; exact Set.subset_univ _
  iexact HO

theorem no_windows (Φ : Fin 0 → sProp 𝕄) : bigSep Finset.univ Φ = iprop(emp) := by
  rw [show (Finset.univ : Finset (Fin 0)) = ∅ from rfl, BI.bigSep_empty]
  rfl

theorem bound_univ (c : Dev nD) (t : Fin (cfg0.N + 1)) : (dats (F := F) m 0 c).bound 0 t = Set.univ := Set.univ_union _

theorem phi_first (c : Dev nD) : (dats (F := F) m 0 c).Φ t0_0.castSucc = before m c := rfl
theorem phi_last (c : Dev nD) : (dats (F := F) m 0 c).Φ t0_0.succ = left m c := rfl
theorem owed_first (c : Dev nD) : (dats (F := F) m 0 c).owed t0_0.castSucc = owed₀ c := rfl
theorem owed_last (c : Dev nD) : (dats (F := F) m 0 c).owed t0_0.succ = 0 := rfl
theorem body_at (s : (w : Fin cfg0.W) → Fin (cfg0.win w).nbuf) : defs₀ (F := F) .tc cfg0.body (cfg0.bodyArgs t0_0 s)
    = cc0__allreduce_body (F := F) (Memref.whole main_arg0) (Memref.isWhole_whole _) (Memref.whole main_v1_0) (Memref.isWhole_whole _)
        (Memref.whole main_v1_1) (Memref.isWhole_whole _) (Memref.whole cc0_scratch0) (Memref.isWhole_whole _) (Memref.whole cc0_scratch1) (Memref.isWhole_whole _)
        cc0_scratch2 cc0_scratch3 cc0_scratch4 cc0_scratch5 := rfl

theorem with_nothing (c : Dev nD) (p : PR F PUnit) {A B A' B' : sProp 𝕄} (h : iprop(A ∗ B) ⊢ WP c p fun _ => iprop(A' ∗ B')) :
    iprop(A ∗ B ∗ emp) ⊢ wp frame (wpE (defs₀ (F := F)) 𝒱₀ (c : Thread nD τ) none) Set.univ p fun _ => iprop(A' ∗ B' ∗ emp) := by
  refine BIBase.Entails.trans (BI.sep_mono (BI.Entails.refl _) BI.sep_emp.1) ?_
  exact BIBase.Entails.trans h (wp_mono _ _ _ fun _ => BI.sep_mono (BI.Entails.refl _) BI.sep_emp.2)

/-- The region's body, as the launch asks for it. -/
theorem body_obligation (c : Dev nD) : Pipeline.BodyObligation (dats (F := F) m 0 c) (defs₀ (F := F)) 𝒱₀ 0 Set.univ := fun t => by
  rw [fin_N0 t, no_windows, no_windows, phi_first, phi_last, body_at]
  unfold Pipeline.Dat.owesAt
  rw [owed_first, owed_last, bound_univ, bound_univ]
  have h := with_nothing c _ (region_ok m c _ rfl)
  refine BIBase.Entails.trans ?_ (BIBase.Entails.trans h ?_)
  · exact BI.Entails.refl _
  · exact Entails.of_eq (congrArg₂ _ (congrArg _ rfl) rfl)

/-! ## What the region takes and leaves -/

theorem ownSemFacts : Pipeline.OwnSemFacts cfg0.spec asem := by decide

/-- What is kept of a device once its region is over. -/
def kept_end (c : Dev nD) : sProp 𝕄 := iprop(has c pM (part m c) ∗ has c oM (out m))

theorem has_whole (c : Dev nD) (b : Ref sig .tc) (f : b.ty.Contents (Elt F)) :
    (owns (c : Thread nD τ) (Memref.whole b) fullShare f : sProp 𝕄) ⊢ (((c : Thread nD τ).loc b) ↦{fullShare} f) := by
  rw [owns_whole]

theorem sems_split (c : Dev nD) : (scopedSems0 (c.tc : Thread nD τ) : sProp 𝕄)
    = iprop((Pipeline.cellsSems0 cfgs 0 c ∗ Pipeline.ownSems0 asem c) ∗ Pipeline.idleSems0 cfgs cellOf_inj 0 ownSemFacts c) :=
  Pipeline.scopedSems0_split (Ix := ℕ) (Val := Elt F) (Name := ℕ) (U := UU) (Lvl := ℕ) cfgs cellOf_inj (0 : Fin 1) winFacts0.to₀ ownSemFacts c
theorem bufs_split (c : Dev nD) : (scopedBufs (c.tc : Thread nD τ) : sProp 𝕄) = iprop(Pipeline.Dat.staging cfg0 c ∗ Pipeline.scopedRest cfg0.spec c) :=
  Pipeline.scopedBufs_split (Ix := ℕ) (Val := Elt F) (Name := ℕ) (U := UU) (Lvl := ℕ) (τ := τ) (nD := nD) cfgs (0 : Fin 1)
  winFacts0.to₀.stage_scoped winFacts0.to₀.stage_inj stage_whole0 c

theorem region_in (c : Dev nD) : iprop(given m c ∗ emp ∗ Pipeline.scopedRest cfg0.spec c) ⊢ before m c := by
  rw [scopedRest0_eq]
  unfold before
  iintro ⟨Hg, -, ⟨%f, Ha⟩, ⟨%f', Ht⟩⟩
  isplitl [Hg]; · iexact Hg
  isplitl [Ha]
  · iexists f; iapply (whole_has c cc0_scratch0 f) $$ Ha
  · iexists f'; iapply (whole_has c cc0_scratch1 f') $$ Ht

theorem region_out (c : Dev nD) :
    iprop(left m c ∗ Pipeline.cellsSems0 cfgs 0 c ∗ Pipeline.Dat.staging cfg0 c ∗ Pipeline.idleSems0 cfgs cellOf_inj 0 ownSemFacts c)
      ⊢ iprop(kept_end m c ∗ scopedSems0 (c.tc : Thread nD τ) ∗ scopedBufs (c.tc : Thread nD τ)) := by
  rw [sems_split, bufs_split, scopedRest0_eq, ownSems_eq]
  unfold left kept_end loc
  iintro ⟨⟨Hp, Ho, ⟨⟨%a, Ha⟩, ⟨%t, Ht⟩, Hl0, Hl1⟩, Hr0, Hr1, Hs0, Hs1, Hc⟩, Hcells, Hst, Hidle⟩
  isplitl [Hp Ho]
  · isplitl [Hp] <;> iassumption
  isplitl [Hcells Hl0 Hl1 Hr0 Hr1 Hs0 Hs1 Hc Hidle]
  · isplitr [Hidle]
    · isplitl [Hcells]; · iexact Hcells
      isplitl [Hr0]; · iexact Hr0
      isplitl [Hr1]; · iexact Hr1
      isplitl [Hs0]; · iexact Hs0
      isplitl [Hs1]; · iexact Hs1
      isplitl [Hc]; · iexact Hc
      isplitl [Hl0] <;> iassumption
    · iexact Hidle
  isplitl [Hst]; · iexact Hst
  isplitl [Ha]
  · iexists a; iapply (has_whole c cc0_scratch0 a) $$ Ha
  · iexists t; iapply (has_whole c cc0_scratch1 t) $$ Ht

/-! ## What each device holds before its program and after it -/

/-- Before it. -/
def atStart (c : Dev nD) : sProp 𝕄 :=
  iprop(scopedBufs (c.tc : Thread nD τ) ∗ Pipeline.cellsSems0 cfgs 0 c ∗ Pipeline.idleSems0 cfgs cellOf_inj 0 ownSemFacts c
    ∗ owes (c.tc : Thread nD τ) (owed₀ c) ∅ ∗ Pipeline.cellsGhost cfgs EP 0 c ∗ Pipeline.toksInit cfgs EP 0 c ∗ given m c)

/-- After it. -/
def atEnd (c : Dev nD) : sProp 𝕄 := iprop(kept_end m c ∗ scopedSems0 (c.tc : Thread nD τ))

/-- A device's launch holdings, regrouped. -/
theorem core_holdings (ρ : Dev nD → PrngReg) (c : Dev nD) :
    coreInit (Ix := ℕ) (Name := ℕ) (U := UU) (Lvl := ℕ) (Pipeline.owing owed₀) 0 (s₀ m ρ) (c.tc : Thread nD τ)
      ⊢ iprop(scopedBufs (c.tc : Thread nD τ) ∗ Pipeline.cellsSems0 cfgs 0 c ∗ Pipeline.idleSems0 cfgs cellOf_inj 0 ownSemFacts c
        ∗ owes (c.tc : Thread nD τ) (owed₀ c) ∅ ∗ levels0 c ∗ raw m c) := by
  refine BIBase.Entails.trans (Pipeline.coreInit_boundary_owing owed₀ m ρ c) ?_
  unfold boundary raw
  rw [sems_split]
  iintro ⟨⟨Hsc, ⟨⟨Hcells, Hos⟩, Hidle⟩, -⟩, Hub, -, HO, Hlv, -, Hcr⟩
  isplitl [Hsc]; · iexact Hsc
  isplitl [Hcells]; · iexact Hcells
  isplitl [Hidle]; · iexact Hidle
  isplitl [HO]; · iexact HO
  isplitl [Hlv]; · iexact Hlv
  isplitl [Hos]; · iexact Hos
  isplitl [Hub] <;> iassumption

/-- The levels, given to the cells once for the machine. -/
theorem levels_given : (bigSep Finset.univ fun c : Dev nD => levels0 (Ix := ℕ) (Val := Elt F) (Name := ℕ) (U := UU) (Lvl := ℕ) (τ := τ) (sig := sig) c)
    ⊢ (|==> levAts L lv : sProp 𝕄) := by
  refine BIBase.Entails.trans (bigSep_mono fun c _ => lev_assign_cells (c.tc : Thread nD τ) L lv) ?_
  refine BIBase.Entails.trans (BI.bigSep_bupd _ _) (BI.bupd_mono ?_)
  have none_there (d : Dev nD) (p : Proc τ) (hp : p ≠ .tc) : (coreLevAts ((d, p) : Thread nD τ) L lv : sProp 𝕄) = BI.emp := by
    unfold coreLevAts
    rw [bigSep_congr (Ψ := fun _ : SemLoc sig => (BI.emp : sProp 𝕄)) fun sm _ => by rw [L_of_ne (((d, p) : Thread nD τ), sm) hp, BI.bigSep_empty], BI.bigSep_emp_const]
  have others : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun p hp => none_there d p (Finset.ne_of_mem_erase hp)).trans (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), others, bigSep_sep']
  refine (show _ ⊢ (_ : sProp 𝕄) from ?_)
  iintro ⟨-, H⟩
  isplitl [H]; · iexact H
  iempintro

theorem only_region (Φ : Fin 1 → Dev nD → sProp 𝕄) :
    (bigSep Finset.univ fun c : Dev nD => bigSep Finset.univ fun p => Φ p c) ⊢ bigSep Finset.univ fun c : Dev nD => Φ 0 c :=
  bigSep_mono fun c _ => BI.bigSep_elim (Finset.mem_univ 0)

/-- The launch. -/
theorem launch (ρ : Dev nD → PrngReg) :
    iprop((bigSep Finset.univ fun d : Dev nD => coreInit (Ix := ℕ) (Name := ℕ) (U := UU) (Lvl := ℕ) (Pipeline.owing owed₀) 0 (s₀ m ρ) (d.tc : Thread nD τ)) ∗ ownU u₀)
      ⊢ (|={Set.univ}=> bigSep Finset.univ fun c : Dev nD => atStart m c : sProp 𝕄) := by
  have hcores := bigSep_mono (s := Finset.univ) fun (c : Dev nD) _ => core_holdings m ρ c
  simp only [bigSep_sep'] at hcores
  replace hcores := (show _ ⊢ (_ : sProp 𝕄) from hcores)
  unfold atStart
  simp only [bigSep_sep']
  iintro ⟨Hcores, Hu⟩
  ihave Hc := hcores $$ Hcores
  icases Hc with ⟨Hsc, Hcells, Hidle, HO, Hlv, Hraw⟩
  imod (levels_given (F := F)) $$ Hlv with Hla
  ihave Hu := (u₀_split (F := F)) $$ Hu
  icases Hu with ⟨HP, HR, HS⟩
  imod (Pipeline.fund_ghost cfgs EP cellOf_inj) $$ HP with ⟨Hg, Ht⟩
  imod (deal m) $$ [Hraw Hla HR HS] with HG
  · isplitl [Hraw]; · iexact Hraw
    isplitl [Hla]; · iexact Hla
    isplitl [HR] <;> iassumption
  imodintro
  isplitl [Hsc]; · iexact Hsc
  isplitl [Hcells]; · iexact Hcells
  isplitl [Hidle]; · iexact Hidle
  isplitl [HO]; · iexact HO
  isplitl [Hg]; · iapply (only_region fun p c => Pipeline.cellsGhost cfgs EP p c); iexact Hg
  isplitl [Ht]; · iapply (only_region fun p c => Pipeline.toksInit cfgs EP p c); iexact Ht
  iexact HG

/-! ## The run -/

theorem no_arrays (c : Dev nD) (A : (w : Fin cfg0.W) → Buf (Elt F) ((cfg0.win w).arr.view.loc (c.tc : Thread nD τ))) :
    (iprop(emp) : sProp 𝕄) ⊢ (dats m 0 c).arrays A := by
  unfold Pipeline.Dat.arrays
  rw [no_windows]

theorem no_waits (c : Dev nD) : (iprop(emp) : sProp 𝕄) ⊢ Pipeline.cellsWaits cfgs (dats m) 0 0 c :=
  Pipeline.cellsWaits_intro cfgs (dats m) 0 0 c fun w => w.elim0

theorem no_tables (c : Dev nD) (q : Fin 0 → PosShare TreeShare) :
    (iprop(emp) : sProp 𝕄) ⊢ Pipeline.prefHeld (cfg0.toPCfg (Val := Elt F)).pre c q ((cfg0.toPCfg_adm (Val := Elt F)).1) := by
  unfold Pipeline.prefHeld
  exact Entails.of_eq (no_windows _).symm

theorem region_in' (c : Dev nD) (q : Fin 0 → PosShare TreeShare) :
    iprop(given m c ∗ Pipeline.prefHeld (cfg0.toPCfg (Val := Elt F)).pre c q ((cfg0.toPCfg_adm (Val := Elt F)).1) ∗ Pipeline.scopedRest cfg0.spec c)
      ⊢ before m c := by
  refine BIBase.Entails.trans (BI.sep_mono (BI.Entails.refl _) (BI.sep_mono ?_ (BI.Entails.refl _))) (region_in m c)
  refine (show _ ⊢ (_ : sProp 𝕄) from ?_)
  iintro -
  iempintro

theorem end_owes (c : Dev nD) : Pipeline.EntryPost cfgs (dats m) 0 0 c ⊢ (iprop(∃ W, owes (c.tc : Thread nD τ) (0 : CellTallies nD τ sig ℕ) W) : sProp 𝕄) := by
  unfold Pipeline.EntryPost Pipeline.PerCore.EntryPost Pipeline.Dat.owesAt Pipeline.owesWithin
  iintro ⟨-, ⟨%W, -, HW⟩⟩
  iexists W; iexact HW

theorem main_eq (c : Dev nD) : main (F := F) c = .op (.customCall (Pipeline.entry 0) ()) (fun _ => .ret ⟨⟩) := rfl

/-- The region's rule, at this region. -/
theorem region_rule (c : Dev nD) (κ : GSem nD τ sig → ℕ) {Q : PUnit → sProp 𝕄} :
    iprop(Pipeline.EntryPre cfgs (dats m) 0 EP κ 0 c ∗ Pipeline.prefHeld (cfg0.toPCfg (Val := Elt F)).pre c (fun _ => fullShare) ((cfg0.toPCfg_adm (Val := Elt F)).1)
        ∗ given m c ∗ Pipeline.idleSems0 cfgs cellOf_inj 0 ownSemFacts c ∗ scopedBufs (c.tc : Thread nD τ))
      ⊢ iprop(((Pipeline.EntryPost cfgs (dats m) 0 0 c ∗ kept_end m c ∗ scopedSems0 (c.tc : Thread nD τ) ∗ scopedBufs (c.tc : Thread nD τ))
              -∗ wp frame (wpE (defs (F := F)) (Variants.lift 𝒱₀) (c.tc : Thread nD τ) none) Set.univ (.ret ⟨⟩) Q)
          -∗ wp frame (wpE (defs (F := F)) (Variants.lift 𝒱₀) (c.tc : Thread nD τ) none) Set.univ (.op (.customCall (Pipeline.entry 0) ()) (fun _ => .ret ⟨⟩)) Q) := by
  have h := Pipeline.wp_customCall_entry_frame (pcfgs (F := F)) (fun p => (cfgs p).toPCfg_adm) (dats m) 0 EP κ cellOf_inj (0 : Fin 1) (defs₀ (F := F)) 𝒱₀ (fun _ => fullShare) c Set.univ
      (fun _ _ => Set.mem_univ _) (body_obligation m c).loose block_pos0 none (fun u h => nomatch h)
      (X := given m c) (Y := kept_end m c) (R := Pipeline.scopedRest cfg0.spec c) (I := Pipeline.idleSems0 cfgs cellOf_inj 0 ownSemFacts c)
      (Entails.of_eq (bufs_split c)) (region_in' m c _) (region_out m c)
      (k := fun _ => .ret ⟨⟩) (Q := Q)
  unfold defs
  refine BIBase.Entails.trans ?_ (BIBase.Entails.trans h ?_)
  · exact BI.Entails.refl _
  · exact Entails.of_eq (congrArg₂ _ (congrArg₂ _ rfl rfl) rfl)

/-- A device's program, from what it starts with to what it ends with. -/
theorem core_run (c : Dev nD) :
    atStart m c ⊢ wp frame (wpE (defs (F := F)) (Variants.lift 𝒱₀) (c.tc : Thread nD τ) none) Set.univ (main (F := F) c)
      (fun _ => post (liftTc (atEnd m) BI.emp) (c.tc : Thread nD τ)) := by
  rw [main_eq]
  unfold atStart
  iintro ⟨Hsc, Hcells, Hidle, HO, Hg, Ht, HG⟩
  iapply (fupd_wp frame (wpE (defs (F := F)) (Variants.lift 𝒱₀) (c.tc : Thread nD τ) none) Set.univ _ _)
  imod (Pipeline.cellsInit_alloc cfgs (dats m) EP cellOf_inj 0 c) $$ [Hcells Hg] with ⟨%κ, -, Hinit⟩
  · isplitl [Hcells] <;> iassumption
  imodintro
  iapply (region_rule m c κ (Q := fun _ => post (liftTc (atEnd m) BI.emp) (c.tc : Thread nD τ))) $$ [HO Hinit Ht HG Hidle Hsc]
  · isplitl [HO Hinit Ht]
    · unfold Pipeline.EntryPre Pipeline.PerCore.EntryPre Pipeline.Dat.owesAt Pipeline.owesWithin
      isplitr; · iapply (no_arrays m c _); iempintro
      isplitl [HO]
      · iexists ∅; isplitr; · ipureintro; rw [Finset.coe_empty]; exact Set.empty_subset _
        iexact HO
      isplitr; · iapply (no_waits m c); iempintro
      isplitl [Hinit] <;> iassumption
    isplitr; · iapply (no_tables c _); iempintro
    isplitl [HG]; · iexact HG
    isplitl [Hidle]; · iexact Hidle
    iexact Hsc
  iintro ⟨Hpost, HY, Hss, -⟩
  rw [wp_ret]; imodintro
  unfold post; simp only [liftTc_tc]
  unfold atEnd
  isplitr [Hpost]
  · isplitl [HY]; · iexact HY
    iexact Hss
  · iapply (end_owes m c) $$ Hpost

/-- What a final memory holds of device `c`. -/
def Final (c : Dev nD) (s : MemSt nD τ sig (Elt F)) : Prop :=
  s.mem ((c : Thread nD τ).loc main_arg0) = m ((c : Thread nD τ).loc main_arg0) ∧ s.mem ((c : Thread nD τ).loc main_v1_0) = out m

/-- What a device ends with, read against a final state. -/
theorem end_read (c : Dev nD) (s' : Phys nD τ sig (Elt F)) : iprop(atEnd m c ∗ SI s') ⊢ (|={Set.univ}=>
    iprop(⌜Final m c s'.mem ∧ ∀ sm : SemLoc sig, sm.isScoped .tc = true → s'.mem.sem ((c.tc : Thread nD τ), sm) = 0⌝ ∗ SI s') : sProp 𝕄) := by
  unfold atEnd kept_end
  iintro ⟨⟨⟨Hp, Ho⟩, Hss⟩, HSI⟩
  ihave %hz := (tcScoped_read_pers c s') $$ [Hss HSI]
  · isplitl [Hss] <;> iassumption
  ihave Hp := (has_whole c main_arg0 _) $$ Hp
  ihave Ho := (has_whole c main_v1_0 _) $$ Ho
  icombine HSI Hp gives %hp
  icombine HSI Ho gives %ho
  imodintro
  isplitr
  · ipureintro; exact ⟨⟨funext fun i => hp i (Finset.mem_univ i), funext fun i => ho i (Finset.mem_univ i)⟩, hz⟩
  · iexact HSI

/-- From any memory with the counters at zero, every weakly fair run of the thirty-two devices ends, with every device's argument as
    it was, its result the sums `out`, and every counter at zero. -/
theorem run_main (ρ : Dev nD → PrngReg) : θ_run (defs (F := F)) (onTc (τ := τ) (main (F := F))) (s₀ m ρ)
    (fun r => (∀ c, Final m c r.2) ∧ r.2.sem = fun _ => 0) := by
  refine (θ_run (defs (F := F)) _ _).mono (Q := fun r => (∀ c : Dev nD, Final m c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped (by decide) (sems_of_reads (fun c => (hr.1 c).2) hr.2)⟩)
    (adequate_tpu (defs (F := F)) _ _ _
      (reflect_intro_fupd_tc_sems (X := Unit) (Variants.lift 𝒱₀) (Pipeline.owing owed₀) 0 (noBookings fun _ => le_rfl) (Pipeline.owing_of_ne owed₀) u₀
        (fun _ => atStart m) (fun _ => atEnd m) (fun _ => iprop(emp)) Set.univ ?_ (fun _ c => core_run m c) fun _ => ?_))
  · iintro H
    imod (launch m ρ) $$ H with H
    imodintro
    iexists ()
    isplitl [H]; · iexact H
    iempintro
  · unfold s₀
    iintro ⟨H, -, Hsc⟩ %s' HSI
    ihave %hsc := (scSems_read_zero m ρ s') $$ [Hsc HSI]
    · isplitl [Hsc] <;> iassumption
    imod (posts_fupd Finset.univ (end_read m) s') $$ [H HSI] with %h
    · isplitl [H] <;> iassumption
    imodintro
    ipureintro
    exact ⟨fun c => h c (Finset.mem_univ c), hsc⟩

end Cert.KernelIdeal.Ring

end
-- ==== Proof.Value.lean ====
module

public import proofs.«01_k».proof.Proof.Launch
public import proofs.«01_k».proof.Proof.Gen.ReferenceIdeal.Run
public import Idealize.ShloMosaic.Lib.IdealHost
public import Idealize.ShloMosaic.Lib.Pointwise

@[expose] public section

/-! # The value

In exact arithmetic what every device ends with is, at each place, the sum of the 32 partial products there: block `j` starts at
device `j` and each of the next 31 devices around the ring adds its own. The reference's sum over the leading axis of the stacked
partial products is the same sum. -/

noncomputable section

namespace Cert.KernelIdeal.Ring

open Idealize.ShloMosaic Cert.KernelIdeal.Gen
open Idealize.ShloMosaic.TcCoe Idealize.ShloMosaic.ValueIdx

variable (m : (ℓ : Loc nD τ sig) → Buf (Elt Ideal) ℓ)

/-- The device `t` places before `c`. -/
def back (c : Dev nD) (t : ℕ) : Dev nD := ⟨(c.val + 32 - t % 32) % 32, Nat.mod_lt _ (by decide)⟩

theorem back_prv (c : Dev nD) (t : ℕ) : back (prv c) t = back c (t + 1) := by
  apply Fin.ext
  have hc : c.val < 32 := c.isLt
  simp only [back, prv]
  omega

theorem ch_prv (c : Dev nD) {s : ℕ} (hs : s < 31) : ch (prv c) s = ch c (s + 1) := by
  apply Fin.ext
  have hc : c.val < 32 := c.isLt
  simp only [ch, prv]
  omega

/-- A step of the first 31 adds, place by place. -/
theorem add_apply (v w : X Ideal) (k : S128x8192.Idx) : k0_pay1 (F := Ideal) v w k = (v k + w k : EReal) := by
  unfold k0_pay1
  rw [shapeCast_id]
  rfl

/-- What is sent at step `s` is the sum of the last `s + 1` devices' rows. -/
theorem sent_sum (k : S128x8192.Idx) : ∀ s, s ≤ 31 → ∀ c : Dev nD,
    sent m s c k = (∑ t ∈ Finset.range (s + 1), (ini m (back c t) (ch c s) k : EReal) : EReal)
  | 0, _, c => by
    have hb : back c 0 = c := Fin.ext (by
      have hc : c.val < 32 := c.isLt
      show (c.val + 32 - 0 % 32) % 32 = c.val
      omega)
    rw [Finset.sum_range_one, hb]
    rfl
  | s + 1, hs, c => by
    have hb : back c 0 = c := Fin.ext (by
      have hc : c.val < 32 := c.isLt
      show (c.val + 32 - 0 % 32) % 32 = c.val
      omega)
    rw [sent_add m c (by omega), add_apply, sent_sum k s (by omega) (prv c), Finset.sum_range_succ' _ (s + 1), hb, ch_prv c (by omega),
      add_comm (ini m c (ch c (s + 1)) k : EReal)]
    exact congrArg (· + (ini m c (ch c (s + 1)) k : EReal)) (Finset.sum_congr rfl fun t _ => by rw [back_prv])

theorem ch_last (j : Fin 32) : ch (last j) 31 = j := by
  apply Fin.ext
  have hj : j.val < 32 := j.isLt
  simp only [ch, last]
  omega

/-- Once around the ring is every device once. -/
theorem once_around (c : Dev nD) (f : Dev nD → EReal) : ∑ t ∈ Finset.range 32, f (back c t) = ∑ d : Dev nD, f d := by
  have hc : c.val < 32 := c.isLt
  refine Finset.sum_bij (fun t _ => back c t) (fun _ _ => Finset.mem_univ _) ?_ ?_ (fun _ _ => rfl)
  · intro t ht t' ht' e
    have h := congrArg Fin.val e
    simp only [back] at h
    have := Finset.mem_range.1 ht
    have := Finset.mem_range.1 ht'
    omega
  · intro d _
    have hd : d.val < 32 := d.isLt
    refine ⟨(c.val + 32 - d.val) % 32, Finset.mem_range.2 (Nat.mod_lt _ (by decide)), Fin.ext ?_⟩
    simp only [back]
    omega

/-- The result at a place is the sum of the partial products there. -/
theorem out_sum (i : S4096x8192.Idx) : out m i = (∑ d : Dev nD, (part m d i : EReal) : EReal) := by
  obtain ⟨j, -, hj⟩ := Finset.mem_biUnion.1 (rct_cover ▸ Finset.mem_univ i)
  obtain ⟨k, rfl⟩ : ∃ k, (rct j).emb k = i := (rct j).toLoadRect.exists_idx_of_mem hj
  refine (congrFun (out_rct m j) k).trans ((sent_sum m k 31 le_rfl (last j)).trans ?_)
  rw [ch_last]
  exact once_around (last j) fun d => part m d ((rct j).emb k)

/-! ## The reference -/

/-- The stacked partial products, folded to one more axis, at a place of device `d`'s. -/
theorem fold_apply {α : Type} (x : (⟨2, ![131072, 8192]⟩ : Shape).Idx → α)
    (h : (⟨2, ![131072, 8192]⟩ : Shape).ShapeCasts (⟨3, ![32, 4096, 8192]⟩ : Shape))
    (ht : Layout.Tiles ⟨2, ![4096, 8192]⟩ ⟨2, ![131072, 8192]⟩ 0 32)
    (d : Fin 32) (i : S4096x8192.Idx) (k : (⟨3, ![32, 4096, 8192]⟩ : Shape).Idx)
    (h0 : (k 0).val = d.val) (h1 : (k 1).val = (i 0).val) (h2 : (k 2).val = (i 1).val) :
    shapeCast ⟨3, ![32, 4096, 8192]⟩ x h k = Layout.block ⟨2, ![4096, 8192]⟩ ⟨2, ![131072, 8192]⟩ 0 32 d x ht i := by
  refine congrArg x (Shape.reshapeEquiv_eq_of_rowMajor _ ?_)
  obtain ⟨e0, e1⟩ := Layout.idx_rows_val ht d i
  rw [Shape.rowMajor_val_two, Shape.rowMajor_val_three, h0, h1, h2, e0, e1]
  rfl

/-- Where every device holds its part of the stack, the kernel's result is the reference's. -/
theorem out_ref (x : (⟨2, ![131072, 8192]⟩ : Shape).Idx → EReal) (ht : Layout.Tiles ⟨2, ![4096, 8192]⟩ ⟨2, ![131072, 8192]⟩ 0 32)
    (hm : ∀ c : Dev nD, part m c = Layout.block ⟨2, ![4096, 8192]⟩ ⟨2, ![131072, 8192]⟩ 0 32 c x ht)
    (h : (⟨2, ![131072, 8192]⟩ : Shape).ShapeCasts (⟨3, ![32, 4096, 8192]⟩ : Shape))
    (hr : (⟨3, ![32, 4096, 8192]⟩ : Shape).ReducesTo [0] S4096x8192) (hu : 0 < (⟨0, ![]⟩ : Shape).numel) :
    Host.reduceAdd (F := Ideal) (φ := .f32) (shapeCast ⟨3, ![32, 4096, 8192]⟩ x h) (constant ⟨0, ![]⟩ .f32 0x00000000#32) hr hu = out m := by
  funext i
  rw [hostReduceAdd_apply, Ideal.hostReduceAdd_r3_a0, out_sum]
  refine ((congrArg (· + _) Ideal.ofBits_zero_f32).trans (zero_add _)).trans (Finset.sum_congr rfl fun d _ => ?_)
  rw [hm d]
  exact fold_apply x h ht d i _ rfl rfl rfl

end Cert.KernelIdeal.Ring

end
-- ==== Proof.Blocks.lean ====
module

public import proofs.«01_k».proof.Proof.Gen.GemmIdeal.Value
public import Idealize.ShloMosaic.Lib.Pointwise

@[expose] public section

/-! # One device's product, in blocks of 512 rows

A grid point multiplies 512 rows of the left matrix with the whole right matrix and scales the product. In exact arithmetic the
result array holds, at each place, the sum over the 128 contracted places times the two scales (`scaled`). -/

noncomputable section

namespace Cert.Proof.Product

open Idealize.ShloMosaic

/-- The scaled product of two matrices, written out. -/
def scaled (x : (⟨2, ![4096, 128]⟩ : Shape).Idx → EReal) (w : (⟨2, ![128, 8192]⟩ : Shape).Idx → EReal) (a b : (⟨1, ![1]⟩ : Shape).Idx → EReal) :
    (⟨2, ![4096, 8192]⟩ : Shape).Idx → EReal :=
  fun i => (∑ k : Fin 128, x (ix2 (i 0) k) * w (ix2 k (i 1))) * (a (ix1 0) * b (ix1 0))

theorem origin : (![0, 0] : Fin 2 → Nat) = fun _ => 0 := by
  funext a
  fin_cases a <;> rfl

theorem origin_line : (![0] : Fin 1 → Nat) = fun _ => 0 := by
  funext a
  fin_cases a
  rfl

end Cert.Proof.Product

namespace Cert.Proof.Blocks

open Cert.GemmIdeal Cert.GemmIdeal.Gen Cert.GemmIdeal.Value Idealize.ShloMosaic Idealize.ShloMosaic.TcCoe Idealize.SL.Sem
open Cert.Proof.Product

/-- What a grid point stores, at a place of its block. -/
theorem pay_apply (s t : EReal) (x : Vec Ideal S512x128 .fp8e4m3) (w : Vec Ideal S128x8192 .fp8e4m3) (j : S512x8192.Idx) :
    k0_pay1 (F := Ideal) s t x w j = ((∑ k : Fin 128, (x (ix2 (j 0) k) : EReal) * w (ix2 k (j 1))) * (s * t) : EReal) := by
  unfold k0_pay1
  pointwise

/-- The body leaves in its output block the one store's payload, of the two scales and the two input blocks. -/
theorem left_eq (c : Dev nD) (i : grid0.Coords) (r1 : Memref sig .tc .smem S1 .f32) (h1 : r1.IsWhole) (r2 : Memref sig .tc .smem S1 .f32) (h2 : r2.IsWhole)
    (r3 : Memref sig .tc .vmem S512x128 .fp8e4m3) (h3 : r3.IsWhole) (r4 : Memref sig .tc .vmem S128x8192 .fp8e4m3) (h4 : r4.IsWhole)
    (r5 : Memref sig .tc .vmem S512x8192 .f32) (h5 : r5.IsWhole)
    (a b : Vec Ideal S1 .f32) (x : Vec Ideal S512x128 .fp8e4m3) (w : Vec Ideal S128x8192 .fp8e4m3) :
    out0_A_4 c i r1 h1 r2 h2 r3 h3 r4 h4 r5 h5 a b x w = k0_pay1 (F := Ideal) (a (ix1 0)) (b (ix1 0)) x w := by
  unfold out0_A_4
  rw [View.read_writes_junk_eq_canon]
  show View.canon ([⟨Rect.unit ![0, 0] S512x8192.size inb_S512x8192_S512x8192_0_0,
      k0_pay1
        (View.readAt (Elt Ideal) r1.view (Rect.unit (s := S1) ![0] S1.size inb_S1_S1_0).toLoadRect (h1.unread a) _)
        (View.readAt (Elt Ideal) r2.view (Rect.unit (s := S1) ![0] S1.size inb_S1_S1_0).toLoadRect (h2.unread b) _)
        (View.readAt (Elt Ideal) r3.view (Rect.unit (s := S512x128) ![0, 0] S512x128.size inb_S512x128_S512x128_0_0).toLoadRect (h3.unread x))
        (View.readAt (Elt Ideal) r4.view (Rect.unit (s := S128x8192) ![0, 0] S128x8192.size inb_S128x8192_S128x8192_0_0).toLoadRect (h4.unread w))⟩] :
      List (View.Piece (Elt Ideal) S512x8192 .f32)) = _
  rw [View.canon_unit_zero origin]
  rw [View.readAt_eq_ld, View.readAt_eq_ld, View.readAt_eq_ld, View.readAt_eq_ld, h1.read_unread, h2.read_unread, h3.read_unread, h4.read_unread,
    View.ld_unit_zero origin_line, View.ld_unit_zero origin_line, View.ld_unit_zero origin, View.ld_unit_zero origin]
  exact congrArg₂ (fun s t => k0_pay1 (F := Ideal) s t x w) (congrArg a (funext fun d => by fin_cases d; rfl)) (congrArg b (funext fun d => by fin_cases d; rfl))

variable (m : (ℓ : Loc nD τ sig) → Buf (Elt Ideal) ℓ) (ρ : Dev nD → PrngReg) (c : Dev nD)

/-- The blocks of a grid point: the scales and the right matrix whole, the left matrix and the result from row `512 t` on. -/
theorem places : ∀ t : Fin cfg0.N, win0_0.index t (0 : Fin 1) = 0 ∧ win0_1.index t (0 : Fin 1) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem scale_a (t : Fin cfg0.N) : iblk m c 0 t (ix1 0) = m ((c : Thread nD τ).loc main_arg2) (ix1 0) := by
  refine congrArg (m ((c : Thread nD τ).loc main_arg2)) (funext fun d => Fin.ext ?_)
  fin_cases d
  show win0_0.index t (0 : Fin 1) * 1 + 1 * 0 = 0
  rw [(places t).1]

theorem scale_b (t : Fin cfg0.N) : iblk m c 1 t (ix1 0) = m ((c : Thread nD τ).loc main_arg3) (ix1 0) := by
  refine congrArg (m ((c : Thread nD τ).loc main_arg3)) (funext fun d => Fin.ext ?_)
  fin_cases d
  show win0_1.index t (0 : Fin 1) * 1 + 1 * 0 = 0
  rw [(places t).2.1]

theorem left_block (t : Fin cfg0.N) (j : S512x128.Idx) (i : S4096x128.Idx) (h0 : (i 0).val = 512 * t.val + (j 0).val) (h1 : (i 1).val = (j 1).val) :
    iblk m c 2 t j = m ((c : Thread nD τ).loc main_arg0) i := by
  obtain ⟨-, -, e0, e1, -⟩ := places t
  refine congrArg (m ((c : Thread nD τ).loc main_arg0)) (funext fun d => Fin.ext ?_)
  fin_cases d
  · show win0_2.index t (0 : Fin 2) * 512 + 1 * (j 0).val = (i 0).val
    omega
  · show win0_2.index t (1 : Fin 2) * 128 + 1 * (j 1).val = (i 1).val
    omega

theorem right_block (t : Fin cfg0.N) (j : S128x8192.Idx) : iblk m c 3 t j = m ((c : Thread nD τ).loc main_arg1) j := by
  obtain ⟨-, -, -, -, e0, e1, -⟩ := places t
  refine congrArg (m ((c : Thread nD τ).loc main_arg1)) (funext fun d => Fin.ext ?_)
  fin_cases d
  · show win0_3.index t (0 : Fin 2) * 128 + 1 * (j 0).val = (j 0).val
    omega
  · show win0_3.index t (1 : Fin 2) * 8192 + 1 * (j 1).val = (j 1).val
    omega

/-- Where a place of the point's result block lies in the result. -/
theorem result_place (t : Fin cfg0.N) (j : S512x8192.Idx) :
    ((((cfg0.win 4).blk t).view.emb j) 0).val = 512 * t.val + (j 0).val ∧ ((((cfg0.win 4).blk t).view.emb j) 1).val = (j 1).val := by
  obtain ⟨-, -, -, -, -, -, e0, e1⟩ := places t
  constructor
  · show win0_4.index t (0 : Fin 2) * 512 + 1 * (j 0).val = _
    omega
  · show win0_4.index t (1 : Fin 2) * 8192 + 1 * (j 1).val = _
    omega

/-- The scaled product of the argument arrays. -/
def whole : (⟨2, ![4096, 8192]⟩ : Shape).Idx → EReal :=
  scaled (m ((c : Thread nD τ).loc main_arg0)) (m ((c : Thread nD τ).loc main_arg1)) (m ((c : Thread nD τ).loc main_arg2)) (m ((c : Thread nD τ).loc main_arg3))

/-- A grid point writes back its rows of the scaled product. -/
theorem written (t : Fin cfg0.N) : (dats m 0 c).flushed 4 t = ((cfg0.win 4).blk t).view.read (Elt Ideal) (whole m c) := by
  rw [flushed4_A, left_eq, scale_a, scale_b]
  funext j
  obtain ⟨e0, e1⟩ := result_place t j
  show k0_pay1 (F := Ideal) _ _ (iblk m c 2 t) (iblk m c 3 t) j = whole m c (((cfg0.win 4).blk t).view.emb j)
  rw [pay_apply]
  refine congrArg (· * (_ : EReal)) (Finset.sum_congr rfl fun k _ => congrArg₂ (· * ·) (left_block m c t _ _ e0 rfl) ?_)
  rw [right_block]
  exact congrArg (fun q => m ((c : Thread nD τ).loc main_arg1) (ix2 k q)) (Fin.ext e1.symm)

/-- The 8 blocks fill the result. -/
theorem filled (i : S4096x8192.Idx) : ∃ t : Fin cfg0.N, (cfg0.win 4).flush t = true ∧ i ∈ ((cfg0.win 4).blk t).view.set := by
  have hi : (i 0).val < 4096 := (i 0).isLt
  have hN : cfg0.N = 8 := N_0
  let t : Fin cfg0.N := ⟨(i 0).val / 512, by omega⟩
  let j : S512x8192.Idx := ix2 ⟨(i 0).val % 512, Nat.mod_lt _ (by decide)⟩ (i 1)
  refine ⟨t, flush0_4 t, ?_⟩
  have h := ((cfg0.win 4).blk t).view.emb_mem_set j
  obtain ⟨e0, e1⟩ := result_place t j
  have e : ((cfg0.win 4).blk t).view.emb j = i := by
    funext d
    apply Fin.ext
    fin_cases d
    · exact e0.trans (Nat.div_add_mod (i 0).val 512)
    · exact e1
  rwa [e] at h

/-- After the run the result array is the scaled product, the arguments are as they were. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (whole m c) (fun t _ => written m c t) filled), (h c).2⟩)
    (run_blocks m ρ)

end Cert.Proof.Blocks

end
-- ==== Proof.Single.lean ====
module

public import proofs.«01_k».proof.Proof.Blocks
public import proofs.«01_k».proof.Proof.Gen.ProductIdeal.Value

@[expose] public section

/-! # The product's reference

It has one grid point, whose blocks are the whole arrays: its result is the scaled product at once. -/

noncomputable section

namespace Cert.Proof.Single

open Cert.ProductIdeal Cert.ProductIdeal.Gen Cert.ProductIdeal.Value Idealize.ShloMosaic Idealize.ShloMosaic.TcCoe Idealize.SL.Sem
open Cert.Proof.Product

/-- What the reference stores is the scaled product. -/
theorem pay_eq (x : Vec Ideal S4096x128 .fp8e4m3) (w : Vec Ideal S128x8192 .fp8e4m3) (a b : Vec Ideal S1 .f32) :
    k0_pay1 (F := Ideal) x w (a (ix1 0)) (b (ix1 0)) = scaled x w a b := by
  funext j
  unfold k0_pay1 scaled
  pointwise

/-- The body leaves the one store's payload, of the whole arrays. -/
theorem left_eq (c : Dev nD) (r0 : Memref sig .tc .vmem S4096x128 .fp8e4m3) (h0 : r0.IsWhole) (r1 : Memref sig .tc .vmem S128x8192 .fp8e4m3) (h1 : r1.IsWhole)
    (r2 : Memref sig .tc .smem S1 .f32) (h2 : r2.IsWhole) (r3 : Memref sig .tc .smem S1 .f32) (h3 : r3.IsWhole)
    (r4 : Memref sig .tc .vmem S4096x8192 .f32) (h4 : r4.IsWhole)
    (x : Vec Ideal S4096x128 .fp8e4m3) (w : Vec Ideal S128x8192 .fp8e4m3) (a b : Vec Ideal S1 .f32) :
    out0_A_4 c r0 h0 r1 h1 r2 h2 r3 h3 r4 h4 x w a b = scaled x w a b := by
  unfold out0_A_4
  rw [View.read_writes_junk_eq_canon]
  show View.canon ([⟨Rect.unit ![0, 0] S4096x8192.size inb_S4096x8192_S4096x8192_0_0,
      k0_pay1
        (View.readAt (Elt Ideal) r0.view (Rect.unit (s := S4096x128) ![0, 0] S4096x128.size inb_S4096x128_S4096x128_0_0).toLoadRect (h0.unread x))
        (View.readAt (Elt Ideal) r1.view (Rect.unit (s := S128x8192) ![0, 0] S128x8192.size inb_S128x8192_S128x8192_0_0).toLoadRect (h1.unread w))
        (View.readAt (Elt Ideal) r2.view (Rect.unit (s := S1) ![0] S1.size inb_S1_S1_0).toLoadRect (h2.unread a) _)
        (View.readAt (Elt Ideal) r3.view (Rect.unit (s := S1) ![0] S1.size inb_S1_S1_0).toLoadRect (h3.unread b) _)⟩] :
      List (View.Piece (Elt Ideal) S4096x8192 .f32)) = _
  rw [View.canon_unit_zero origin]
  rw [View.readAt_eq_ld, View.readAt_eq_ld, View.readAt_eq_ld, View.readAt_eq_ld, h0.read_unread, h1.read_unread, h2.read_unread, h3.read_unread,
    View.ld_unit_zero origin, View.ld_unit_zero origin, View.ld_unit_zero origin_line, View.ld_unit_zero origin_line]
  refine Eq.trans ?_ (pay_eq x w a b)
  exact congrArg₂ (k0_pay1 (F := Ideal) x w) (congrArg a (funext fun d => by fin_cases d; rfl)) (congrArg b (funext fun d => by fin_cases d; rfl))

variable (m : (ℓ : Loc nD τ sig) → Buf (Elt Ideal) ℓ) (ρ : Dev nD → PrngReg) (c : Dev nD)

/-- Every block starts where its array does. -/
theorem places : ∀ t : Fin cfg0.N, (win0_0.index t (0 : Fin 2) = 0 ∧ win0_0.index t (1 : Fin 2) = 0)
    ∧ (win0_1.index t (0 : Fin 2) = 0 ∧ win0_1.index t (1 : Fin 2) = 0)
    ∧ win0_2.index t (0 : Fin 1) = 0 ∧ win0_3.index t (0 : Fin 1) = 0
    ∧ win0_4.index t (0 : Fin 2) = 0 ∧ win0_4.index t (1 : Fin 2) = 0 :=
  (by decide +kernel : ∀ t : Fin grid0.N, _)

theorem whole_x (t : Fin cfg0.N) : iblk m c 0 t = m ((c : Thread nD τ).loc main_arg0) := by
  obtain ⟨⟨e0, e1⟩, -⟩ := places t
  funext j
  refine congrArg (m ((c : Thread nD τ).loc main_arg0)) (funext fun d => Fin.ext ?_)
  fin_cases d
  · show win0_0.index t (0 : Fin 2) * 4096 + 1 * (j 0).val = (j 0).val
    omega
  · show win0_0.index t (1 : Fin 2) * 128 + 1 * (j 1).val = (j 1).val
    omega

theorem whole_w (t : Fin cfg0.N) : iblk m c 1 t = m ((c : Thread nD τ).loc main_arg1) := by
  obtain ⟨-, ⟨e0, e1⟩, -⟩ := places t
  funext j
  refine congrArg (m ((c : Thread nD τ).loc main_arg1)) (funext fun d => Fin.ext ?_)
  fin_cases d
  · show win0_1.index t (0 : Fin 2) * 128 + 1 * (j 0).val = (j 0).val
    omega
  · show win0_1.index t (1 : Fin 2) * 8192 + 1 * (j 1).val = (j 1).val
    omega

theorem whole_a (t : Fin cfg0.N) : iblk m c 2 t = m ((c : Thread nD τ).loc main_arg2) := by
  obtain ⟨-, -, e, -⟩ := places t
  funext j
  refine congrArg (m ((c : Thread nD τ).loc main_arg2)) (funext fun d => Fin.ext ?_)
  fin_cases d
  show win0_2.index t (0 : Fin 1) * 1 + 1 * (j 0).val = (j 0).val
  omega

theorem whole_b (t : Fin cfg0.N) : iblk m c 3 t = m ((c : Thread nD τ).loc main_arg3) := by
  obtain ⟨-, -, -, e, -⟩ := places t
  funext j
  refine congrArg (m ((c : Thread nD τ).loc main_arg3)) (funext fun d => Fin.ext ?_)
  fin_cases d
  show win0_3.index t (0 : Fin 1) * 1 + 1 * (j 0).val = (j 0).val
  omega

theorem result_place (t : Fin cfg0.N) (j : S4096x8192.Idx) : ((cfg0.win 4).blk t).view.emb j = j := by
  obtain ⟨-, -, -, -, e0, e1⟩ := places t
  funext d
  apply Fin.ext
  fin_cases d
  · show win0_4.index t (0 : Fin 2) * 4096 + 1 * (j 0).val = (j 0).val
    omega
  · show win0_4.index t (1 : Fin 2) * 8192 + 1 * (j 1).val = (j 1).val
    omega

/-- The scaled product of the argument arrays. -/
def whole : (⟨2, ![4096, 8192]⟩ : Shape).Idx → EReal :=
  scaled (m ((c : Thread nD τ).loc main_arg0)) (m ((c : Thread nD τ).loc main_arg1)) (m ((c : Thread nD τ).loc main_arg2)) (m ((c : Thread nD τ).loc main_arg3))

theorem written (t : Fin cfg0.N) : (dats m 0 c).flushed 4 t = ((cfg0.win 4).blk t).view.read (Elt Ideal) (whole m c) := by
  rw [flushed4_A, left_eq, whole_x, whole_w, whole_a, whole_b]
  funext j
  show whole m c j = whole m c (((cfg0.win 4).blk t).view.emb j)
  rw [result_place]

theorem filled (i : S4096x8192.Idx) : ∃ t : Fin cfg0.N, (cfg0.win 4).flush t = true ∧ i ∈ ((cfg0.win 4).blk t).view.set := by
  have hN : cfg0.N = 1 := N_0
  let t : Fin cfg0.N := ⟨0, by omega⟩
  refine ⟨t, flush0_4 t, ?_⟩
  have h := ((cfg0.win 4).blk t).view.emb_mem_set i
  rwa [result_place] at h

/-- After the run the result array is the scaled product, the arguments are as they were. -/
theorem run : θ_run defs (onTc (τ := τ) (main (F := Ideal))) ⟨m, fun _ => 0, ρ⟩ fun r => ∀ c : Dev nD,
      r.2.mem ((c : Thread nD τ).loc main_v0) = whole m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((dats m 0 c).arrAt_eq_of_cover 4 (whole m c) (fun t _ => written m c t) filled), (h c).2⟩)
    (run_blocks m ρ)

end Cert.Proof.Single

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Gemm
public import proofs.«01_k».proof.Proof.Gen.Gemm.Skeleton
public import proofs.«01_k».proof.Proof.Gen.Gemm.Launch
public import proofs.«01_k».proof.Proof.Gen.Gemm.Points
public import proofs.«01_k».proof.Proof.Gen.Gemm.Frame
public import proofs.«01_k».proof.Proof.Gen.GemmIdeal
public import proofs.«01_k».proof.Proof.Gen.GemmIdeal.Skeleton
public import proofs.«01_k».proof.Proof.Gen.GemmIdeal.Launch
public import proofs.«01_k».proof.Proof.Gen.GemmIdeal.Points
public import proofs.«01_k».proof.Proof.Gen.GemmIdeal.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.GemmIdeal.Value
public import proofs.«01_k».proof.Proof.Gen.ProductIdeal.Value
public import proofs.«01_k».proof.Proof.Value
public import proofs.«01_k».proof.Proof.Single
public import Idealize.ShloMosaic.Adequacy
public import Idealize.ShloMosaic.Init

@[expose] public section

noncomputable section

namespace Cert.Proof

open Idealize.ShloMosaic Idealize.SL.Sem Cert.Kernel

/-! The kernel and its idealized text are one text: the run is written once, over any float values. -/

theorem frame_kernel : Cert.quiescent_Kernel := fun m ρ _ =>
  (θ_run Cert.KernelIdeal.defs _ _).mono (fun _ h => ⟨fun c => (h.1 c).1, h.2⟩) (Cert.KernelIdeal.Ring.run_main (F := Bits) m ρ)

theorem frame_ideal : Cert.quiescent_KernelIdeal := fun m ρ _ =>
  (θ_run Cert.KernelIdeal.defs _ _).mono (fun _ h => ⟨fun c => (h.1 c).1, h.2⟩) (Cert.KernelIdeal.Ring.run_main (F := Ideal) m ρ)

/-- The reference has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Where the devices hold the parts of the stack, every device ends with the reference's sum. -/
theorem algebraic : Cert.algebraic_KernelIdeal_ReferenceIdeal := fun m ρ m' ρ' _ hm =>
  ⟨Cert.KernelIdeal.Ring.out m,
    (θ_run Cert.KernelIdeal.defs _ _).mono (fun _ h c => ⟨(h.1 c).2, (h.1 c).1⟩) (Cert.KernelIdeal.Ring.run_main (F := Ideal) m ρ),
    (θ_run Cert.ReferenceIdeal.defs _ _).mono
      (fun _ h => ⟨(h 0).1.trans (Cert.KernelIdeal.Ring.out_ref m _ _ hm _ _ _), (h 0).2⟩)
      (Cert.ReferenceIdeal.Value.run (F := Ideal) m' ρ')⟩

/-- One device's product: kernel and reference both end with the scaled product of the same arguments. -/
theorem algebraic_product : Cert.algebraic_GemmIdeal_ProductIdeal := fun m ρ m' ρ' _ hm =>
  ⟨fun c => Blocks.whole m c, Blocks.run m ρ,
    (θ_run Cert.ProductIdeal.defs _ _).mono
      (fun _ h c => ⟨(h c).1.trans (by
        obtain ⟨h0, h1, h2, h3⟩ := hm c
        unfold Single.whole Blocks.whole
        rw [h0, h1, h2, h3]), (h c).2⟩)
      (Single.run m' ρ')⟩

theorem claim : Cert.Claim :=
  ⟨Cert.Kernel.Gen.facts, Cert.KernelIdeal.Gen.facts, Cert.ReferenceIdeal.Gen.facts, Cert.Gemm.Gen.facts, Cert.GemmIdeal.Gen.facts,
    Cert.ProductIdeal.Gen.facts, frame_kernel, frame_ideal, frame_reference, fun m ρ _ => Cert.Gemm.Gen.frame m ρ,
    fun m ρ _ => Cert.GemmIdeal.Gen.frame m ρ, fun m ρ _ => Cert.ProductIdeal.Gen.frame m ρ, trivial, algebraic, trivial, algebraic_product⟩

end Cert.Proof

end
